-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S6x2048x5120 : Shape := ⟨3, ![6, 2048, 5120]⟩
abbrev S2112x5120 : Shape := ⟨2, ![2112, 5120]⟩
abbrev S17x40 : Shape := ⟨2, ![17, 40]⟩
abbrev S1536 : Shape := ⟨1, ![1536]⟩
abbrev S512 : Shape := ⟨1, ![512]⟩
abbrev S12288x40x128 : Shape := ⟨3, ![12288, 40, 128]⟩
abbrev S_ : Shape := ⟨0, ![]⟩
abbrev S12288x40 : Shape := ⟨2, ![12288, 40]⟩

class Facts : Prop where
  bitsLt_bf16_f32 : FTy.bits .bf16 < FTy.bits .f32
  shapeCasts_S6x2048x5120_S12288x40x128 : S6x2048x5120.ShapeCasts S12288x40x128
  reducesTo_S12288x40x128_S12288x40_d2 : S12288x40x128.ReducesTo [2] S12288x40
  h_S_ : 0 < S_.numel
  bcast_S_S12288x40 : S_.BroadcastsInDim S12288x40 (![] : Fin 0 → Fin S12288x40.rank)
  reducesTo_S12288x40_S_d0_1 : S12288x40.ReducesTo [0, 1] S_

variable [Facts]

def fn {F : FTy → Type} [FloatOps F] (main_arg0 : FVec F S6x2048x5120 .bf16) (main_arg1 : FVec F S2112x5120 .fp8e4m3) (main_arg2 : FVec F S17x40 .f32) (main_arg3 : FVec F S1536 .bf16) (main_arg4 : FVec F S512 .bf16) : IVec S_ 1 :=
  let main_v0 : FVec F S6x2048x5120 .f32 := (extf .f32 · bitsLt_bf16_f32) main_arg0
  let main_v1 : FVec F S12288x40x128 .f32 := shapeCast S12288x40x128 main_v0 shapeCasts_S6x2048x5120_S12288x40x128
  let main_v2 : FVec F S12288x40x128 .f32 := Host.absf main_v1
  let main_cst : FVec F S_ .f32 := constant S_ .f32 0xFF800000#32
  let main_v3 : FVec F S12288x40 .f32 := (fun x v => Host.reduce FloatOps.maximumf x v reducesTo_S12288x40x128_S12288x40_d2 h_S_) main_v2 main_cst
  let main_cst_0 : FVec F S_ .f32 := constant S_ .f32 0x00000000#32
  let main_v4 : FVec F S12288x40 .f32 := broadcastInDim S12288x40 ![] bcast_S_S12288x40 main_cst_0
  let main_v5 : IVec S12288x40 1 := cmpf .oeq main_v3 main_v4
  let main_cst_1 : FVec F S_ .f32 := constant S_ .f32 0x04E00000#32
  let main_v6 : FVec F S12288x40 .f32 := broadcastInDim S12288x40 ![] bcast_S_S12288x40 main_cst_1
  let main_v7 : IVec S12288x40 1 := cmpf .oge main_v3 main_v6
  let main_cst_2 : FVec F S_ .f32 := constant S_ .f32 0x7F7F0000#32
  let main_v8 : FVec F S12288x40 .f32 := broadcastInDim S12288x40 ![] bcast_S_S12288x40 main_cst_2
  let main_v9 : IVec S12288x40 1 := cmpf .ole main_v3 main_v8
  let main_v10 : IVec S12288x40 1 := andi main_v7 main_v9
  let main_v11 : IVec S12288x40 1 := ori main_v5 main_v10
  let main_c : IVec S_ 1 := constantI S_ 1 1#1
  let main_v12 : IVec S_ 1 := (fun x v => Host.reduce IntOp.andi x v reducesTo_S12288x40_S_d0_1 h_S_) main_v11 main_c
  main_v12
-- ==== Kernel.lean ====
abbrev S6x2048x5120 : Shape := ⟨3, ![6, 2048, 5120]⟩
abbrev S2112x5120 : Shape := ⟨2, ![2112, 5120]⟩
abbrev S17x40 : Shape := ⟨2, ![17, 40]⟩
abbrev S1536 : Shape := ⟨1, ![1536]⟩
abbrev S512 : Shape := ⟨1, ![512]⟩
abbrev S12288x5120 : Shape := ⟨2, ![12288, 5120]⟩
abbrev S1x1536 : Shape := ⟨2, ![1, 1536]⟩
abbrev S1x512 : Shape := ⟨2, ![1, 512]⟩
abbrev S12288x1536 : Shape := ⟨2, ![12288, 1536]⟩
abbrev S12288x512 : Shape := ⟨2, ![12288, 512]⟩
abbrev S12288x64 : Shape := ⟨2, ![12288, 64]⟩
abbrev S12288x40 : Shape := ⟨2, ![12288, 40]⟩
abbrev S256x5120 : Shape := ⟨2, ![256, 5120]⟩
abbrev S256x1536 : Shape := ⟨2, ![256, 1536]⟩
abbrev S256x512 : Shape := ⟨2, ![256, 512]⟩
abbrev S256x64 : Shape := ⟨2, ![256, 64]⟩
abbrev S256x40 : Shape := ⟨2, ![256, 40]⟩
abbrev S1x1 : Shape := ⟨2, ![1, 1]⟩
abbrev S128x128 : Shape := ⟨2, ![128, 128]⟩
abbrev S64x128 : Shape := ⟨2, ![64, 128]⟩
abbrev S256x128 : Shape := ⟨2, ![256, 128]⟩
abbrev S256 : Shape := ⟨1, ![256]⟩
abbrev S256x1 : Shape := ⟨2, ![256, 1]⟩
abbrev S256x2112 : Shape := ⟨2, ![256, 2112]⟩

abbrev nBuf : Space → Nat
  | .hbm => 13
  | .vmem => 17
  | .smem => 1
  | _ => 0

abbrev bufTy : (tb : Table) → Fin (tcTables nBuf tb) → BufTy
  | .hbm, ⟨0, _⟩ => ⟨S6x2048x5120, .bf16⟩
  | .hbm, ⟨1, _⟩ => ⟨S2112x5120, .fp8e4m3⟩
  | .hbm, ⟨2, _⟩ => ⟨S17x40, .f32⟩
  | .hbm, ⟨3, _⟩ => ⟨S1536, .bf16⟩
  | .hbm, ⟨4, _⟩ => ⟨S512, .bf16⟩
  | .hbm, ⟨5, _⟩ => ⟨S12288x5120, .bf16⟩
  | .hbm, ⟨6, _⟩ => ⟨S1x1536, .bf16⟩
  | .hbm, ⟨7, _⟩ => ⟨S1x512, .bf16⟩
  | .hbm, ⟨8, _⟩ => ⟨S12288x1536, .bf16⟩
  | .hbm, ⟨9, _⟩ => ⟨S12288x512, .bf16⟩
  | .hbm, ⟨10, _⟩ => ⟨S12288x64, .bf16⟩
  | .hbm, ⟨11, _⟩ => ⟨S12288x5120, .fp8e4m3⟩
  | .hbm, ⟨12, _⟩ => ⟨S12288x40, .f32⟩
  | .local _ .vmem, ⟨0, _⟩ => ⟨S256x5120, .bf16⟩
  | .local _ .vmem, ⟨1, _⟩ => ⟨S256x5120, .bf16⟩
  | .local _ .vmem, ⟨2, _⟩ => ⟨S2112x5120, .fp8e4m3⟩
  | .local _ .vmem, ⟨3, _⟩ => ⟨S1x1536, .bf16⟩
  | .local _ .vmem, ⟨4, _⟩ => ⟨S1x512, .bf16⟩
  | .local _ .vmem, ⟨5, _⟩ => ⟨S256x1536, .bf16⟩
  | .local _ .vmem, ⟨6, _⟩ => ⟨S256x1536, .bf16⟩
  | .local _ .vmem, ⟨7, _⟩ => ⟨S256x512, .bf16⟩
  | .local _ .vmem, ⟨8, _⟩ => ⟨S256x512, .bf16⟩
  | .local _ .vmem, ⟨9, _⟩ => ⟨S256x64, .bf16⟩
  | .local _ .vmem, ⟨10, _⟩ => ⟨S256x64, .bf16⟩
  | .local _ .vmem, ⟨11, _⟩ => ⟨S256x5120, .fp8e4m3⟩
  | .local _ .vmem, ⟨12, _⟩ => ⟨S256x5120, .fp8e4m3⟩
  | .local _ .vmem, ⟨13, _⟩ => ⟨S256x40, .f32⟩
  | .local _ .vmem, ⟨14, _⟩ => ⟨S256x40, .f32⟩
  | .local _ .vmem, ⟨15, _⟩ => ⟨S2112x5120, .bf16⟩
  | .local _ .vmem, ⟨16, _⟩ => ⟨S256x5120, .bf16⟩
  | .local _ .smem, ⟨0, _⟩ => ⟨S17x40, .f32⟩
  | _, _ => ⟨S6x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S17x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2112x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5120 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x40 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S6x2048x5120 : Shape := ⟨3, ![6, 2048, 5120]⟩
abbrev S2112x5120 : Shape := ⟨2, ![2112, 5120]⟩
abbrev S17x40 : Shape := ⟨2, ![17, 40]⟩
abbrev S1536 : Shape := ⟨1, ![1536]⟩
abbrev S512 : Shape := ⟨1, ![512]⟩
abbrev S12288x5120 : Shape := ⟨2, ![12288, 5120]⟩
abbrev S1x1536 : Shape := ⟨2, ![1, 1536]⟩
abbrev S1x512 : Shape := ⟨2, ![1, 512]⟩
abbrev S12288x1536 : Shape := ⟨2, ![12288, 1536]⟩
abbrev S12288x512 : Shape := ⟨2, ![12288, 512]⟩
abbrev S12288x64 : Shape := ⟨2, ![12288, 64]⟩
abbrev S12288x40 : Shape := ⟨2, ![12288, 40]⟩
abbrev S12288x40x128 : Shape := ⟨3, ![12288, 40, 128]⟩
abbrev S12288x40x254 : Shape := ⟨3, ![12288, 40, 254]⟩
abbrev S12288x40x1 : Shape := ⟨3, ![12288, 40, 1]⟩
abbrev S17x1x40x1 : Shape := ⟨4, ![17, 1, 40, 1]⟩
abbrev S17x128x40x128 : Shape := ⟨4, ![17, 128, 40, 128]⟩
abbrev S2176x5120 : Shape := ⟨2, ![2176, 5120]⟩
abbrev S12288x2112 : Shape := ⟨2, ![12288, 2112]⟩
abbrev S12288 : Shape := ⟨1, ![12288]⟩
abbrev S12288x1 : Shape := ⟨2, ![12288, 1]⟩

abbrev nBuf : Space → Nat
  | .hbm => 13
  | .vmem => 10
  | .smem => 0
  | _ => 0

abbrev bufTy : (tb : Table) → Fin (tcTables nBuf tb) → BufTy
  | .hbm, ⟨0, _⟩ => ⟨S6x2048x5120, .bf16⟩
  | .hbm, ⟨1, _⟩ => ⟨S2112x5120, .fp8e4m3⟩
  | .hbm, ⟨2, _⟩ => ⟨S17x40, .f32⟩
  | .hbm, ⟨3, _⟩ => ⟨S1536, .bf16⟩
  | .hbm, ⟨4, _⟩ => ⟨S512, .bf16⟩
  | .hbm, ⟨5, _⟩ => ⟨S12288x5120, .bf16⟩
  | .hbm, ⟨6, _⟩ => ⟨S1x1536, .bf16⟩
  | .hbm, ⟨7, _⟩ => ⟨S1x512, .bf16⟩
  | .hbm, ⟨8, _⟩ => ⟨S12288x1536, .bf16⟩
  | .hbm, ⟨9, _⟩ => ⟨S12288x512, .bf16⟩
  | .hbm, ⟨10, _⟩ => ⟨S12288x64, .bf16⟩
  | .hbm, ⟨11, _⟩ => ⟨S12288x5120, .fp8e4m3⟩
  | .hbm, ⟨12, _⟩ => ⟨S12288x40, .f32⟩
  | .local _ .vmem, ⟨0, _⟩ => ⟨S12288x5120, .bf16⟩
  | .local _ .vmem, ⟨1, _⟩ => ⟨S2112x5120, .fp8e4m3⟩
  | .local _ .vmem, ⟨2, _⟩ => ⟨S17x40, .f32⟩
  | .local _ .vmem, ⟨3, _⟩ => ⟨S1x1536, .bf16⟩
  | .local _ .vmem, ⟨4, _⟩ => ⟨S1x512, .bf16⟩
  | .local _ .vmem, ⟨5, _⟩ => ⟨S12288x1536, .bf16⟩
  | .local _ .vmem, ⟨6, _⟩ => ⟨S12288x512, .bf16⟩
  | .local _ .vmem, ⟨7, _⟩ => ⟨S12288x64, .bf16⟩
  | .local _ .vmem, ⟨8, _⟩ => ⟨S12288x5120, .fp8e4m3⟩
  | .local _ .vmem, ⟨9, _⟩ => ⟨S12288x40, .f32⟩
  | _, _ => ⟨S6x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12288x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2112x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S17x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x40 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Scale.lean ====
module
public import Idealize.ShloMosaic.Lib.Pointwise
public import Idealize.ShloMosaic.Lib.Pipeline.ValueKit
@[expose] public section
set_option maxRecDepth 16384

/-! # The scale of one quantisation group

A group's largest magnitude `A` fixes its scale. The kernel counts the table entries at most `A`
and makes the scale and its reciprocal from the count's bits (`kScale`, `kInv`); the reference takes
the least power of two `p` with `A < 448 p` (`rScale`). This file proves the two equal, over the
reals, for every `A` of the precondition (`Good`). -/

noncomputable section
namespace Cert.Scale
open Idealize.ShloMosaic Idealize.SL.Sem

/-- The `k`-th table entry, `k = j + h`: the float whose word is `k * 2^23 - 2^21`. -/
def thr (j : Nat) (h : BitVec 32) : EReal :=
  Ideal.ofBits .f32 (IntOp.subi (IntOp.shli ArithUnit.vector (IntOp.addi (BitVec.ofNat 32 j) h) 23#32) 2097152#32)

/-- What lane `j` of half `h` contributes to the count: its own number if its entry is at most `A`. -/
def lane (A : EReal) (j : Nat) (h : BitVec 32) : EReal :=
  if A < thr j h then 0 else (FloatOps.sitofp (F := Ideal) .f32 (IntOp.addi (BitVec.ofNat 32 j) h))

/-- The largest table index whose entry is at most `A`, as a float. -/
def kMax (A : EReal) : EReal :=
  Finset.fold max (Ideal.ofBits .f32 4286578688#32)
    (fun j : Fin 128 => max (max 0 (lane A j 0#32)) (lane A j 128#32)) Finset.univ

/-- The index shifted into the exponent field of a bfloat16 word. -/
def kWord (A : EReal) : BitVec 16 :=
  IntOp.muli (BitVec.setWidth 16 (FloatOps.fptosi (F := Ideal) (φ := .f32) 32 (kMax A))) 128#16

/-- The kernel's scale of a group whose largest magnitude is `A`. -/
def kScale (A : EReal) : EReal :=
  Ideal.ofBits .bf16 (Scalar.select (IntOp.cmpi .slt (kWord A) 1280#16) (16256#16) (IntOp.subi (kWord A) (1024#16)))

/-- The kernel's reciprocal of that scale. -/
def kInv (A : EReal) : EReal :=
  Ideal.ofBits .bf16 (Scalar.select (IntOp.cmpi .slt (kWord A) 1280#16) (16256#16) (IntOp.subi (33536#16) (kWord A)))

/-- The `j`-th candidate of the reference: `2^(j - 126)`. -/
def cand (j : Nat) : EReal :=
  Ideal.exp2 (FloatOps.sitofp (F := Ideal) .f32 (IntOp.addi (BitVec.ofNat 32 j) 4294967170#32))

/-- The least candidate `p` with `A < 448 p`. -/
def rMin (A : EReal) : EReal :=
  Finset.fold min (Ideal.ofBits .f32 2139095040#32)
    (fun j : Fin 254 => if A < Ideal.ofBits .f32 1138753536#32 * cand j then cand j
      else Ideal.ofBits .f32 2139095040#32) Finset.univ

/-- The reference's scale of a group whose largest magnitude is `A`. -/
def rScale (A : EReal) : EReal := if A = 0 then 1 else rMin A

/-- `A` is 0, or lies between two neighbouring table entries that the scale's exponent can follow. -/
def Good (A : EReal) : Prop :=
  A = 0 ∨ ∃ n : ℕ, 10 ≤ n ∧ n ≤ 255 ∧ ((7 / 4 * (2 : ℝ) ^ ((n : ℤ) - 128) : ℝ) : EReal) ≤ A ∧
    A < ((7 / 4 * (2 : ℝ) ^ ((n : ℤ) - 127) : ℝ) : EReal)

/-- A bfloat16 word with exponent field `e` and nothing else denotes `2^(e - 127)`. -/
theorem ofBits_exponent (e : Fin 255) (h : 1 ≤ e.val) :
    Ideal.ofBits .bf16 (BitVec.ofNat 16 (128 * e.val)) = (((2 : ℝ) ^ ((e : ℤ) - 127) : ℝ) : EReal) := by
  have h1 : ∀ e : Fin 255, ((BitVec.ofNat 16 (128 * e.val)).extractLsb' (8 + 7) 1 == 1#1) = false := by decide +kernel
  have h2 : ∀ e : Fin 255, ((BitVec.ofNat 16 (128 * e.val)).extractLsb' 7 8).toNat = e.val := by decide +kernel
  have h3 : ∀ e : Fin 255, ((BitVec.ofNat 16 (128 * e.val)).extractLsb' 0 7).toNat = 0 := by decide +kernel
  have hlt := e.isLt
  show Ideal.ieee 8 7 (BitVec.ofNat 16 (128 * e.val)) = _
  simp only [Ideal.ieee, h1, h2, h3]
  rw [if_neg (by omega), if_neg (by omega)]
  congr 1
  have : ((e.val : ℤ) - 127) = ((e.val : ℤ) - (2 ^ (8 - 1) - 1) - (7 : ℕ)) + 7 := by norm_num
  rw [this, zpow_add₀ (by norm_num)]
  norm_num
  ring

/-- The table's entries from the second on. -/
theorem thr_ge (j h : Nat) (hh : h = 0 ∨ h = 128) (hj : j < 128) (hk : 2 ≤ j + h) :
    thr j (BitVec.ofNat 32 h) = ((7 / 4 * (2 : ℝ) ^ (((j + h : ℕ) : ℤ) - 128) : ℝ) : EReal) := by
  have hw : ∀ j : Fin 128, ∀ h : Fin 2, IntOp.subi (IntOp.shli ArithUnit.vector
      (IntOp.addi (BitVec.ofNat 32 j.val) (BitVec.ofNat 32 (128 * h.val))) 23#32) 2097152#32
      = BitVec.ofNat 32 (j.val + 128 * h.val) * 8388608#32 - 2097152#32 := by decide +kernel
  have h1 : ∀ k : Fin 256, 2 ≤ k.val → ((BitVec.ofNat 32 k.val * 8388608#32 - 2097152#32).extractLsb' (8 + 23) 1 == 1#1) = false := by decide +kernel
  have h2 : ∀ k : Fin 256, 2 ≤ k.val → ((BitVec.ofNat 32 k.val * 8388608#32 - 2097152#32).extractLsb' 23 8).toNat = k.val - 1 := by decide +kernel
  have h3 : ∀ k : Fin 256, 2 ≤ k.val → ((BitVec.ofNat 32 k.val * 8388608#32 - 2097152#32).extractLsb' 0 23).toNat = 6291456 := by decide +kernel
  obtain ⟨h', rfl⟩ : ∃ h' : Fin 2, h = 128 * h'.val := by
    rcases hh with rfl | rfl
    · exact ⟨0, rfl⟩
    · exact ⟨1, rfl⟩
  have hlt := h'.isLt
  unfold thr
  rw [hw ⟨j, hj⟩ h']
  have hk' : j + 128 * h'.val < 256 := by omega
  generalize hkk : j + 128 * h'.val = k at hk hk' ⊢
  show Ideal.ieee 8 23 _ = _
  have e1 := h1 ⟨k, hk'⟩ hk
  have e2 := h2 ⟨k, hk'⟩ hk
  have e3 := h3 ⟨k, hk'⟩ hk
  simp only at e1 e2 e3
  simp only [Ideal.ieee, hkk, e1, e2, e3]
  rw [if_neg (by omega), if_neg (by omega)]
  congr 1
  have : ((k : ℤ) - 128) = (((k - 1 : ℕ) : ℤ) - (2 ^ (8 - 1) - 1) - (23 : ℕ)) + 23 := by
    push_cast [Nat.cast_sub (by omega : 1 ≤ k)]; ring
  rw [this, zpow_add₀ (by norm_num)]
  norm_num
  ring

/-- The first entry is a NaN's word, whose reading is `⊥`. -/
theorem thr_zero : thr 0 0#32 = ⊥ := by
  have hw : IntOp.subi (IntOp.shli ArithUnit.vector (IntOp.addi (BitVec.ofNat 32 0) 0#32) 23#32) 2097152#32 = 0xFFE00000#32 := by decide +kernel
  unfold thr
  rw [hw]
  simp [Ideal.ofBits, Ideal.ieee]

/-- The second entry is a positive number below the third. -/
theorem thr_one : 0 < thr 1 0#32 ∧ thr 1 0#32 < ((7 / 4 * (2 : ℝ) ^ ((10 : ℤ) - 128) : ℝ) : EReal) := by
  have hw : IntOp.subi (IntOp.shli ArithUnit.vector (IntOp.addi (BitVec.ofNat 32 1) 0#32) 23#32) 2097152#32 = 0x600000#32 := by decide +kernel
  unfold thr
  rw [hw]
  have : Ideal.ofBits .f32 0x600000#32 = ((6291456 * (2 : ℝ) ^ (-149 : ℤ) : ℝ) : EReal) := by
    simp [Ideal.ofBits, Ideal.ieee]
  rw [this]
  constructor
  · exact_mod_cast (by positivity : (0 : ℝ) < 6291456 * (2 : ℝ) ^ (-149 : ℤ))
  · rw [EReal.coe_lt_coe_iff]; norm_num

/-- A lane's number as a float. -/
theorem sitofp_lane (j h : Nat) (hh : h = 0 ∨ h = 128) (hj : j < 128) :
    (FloatOps.sitofp (F := Ideal) .f32 (IntOp.addi (BitVec.ofNat 32 j) (BitVec.ofNat 32 h)) : EReal) = (((j + h : ℕ) : ℝ) : EReal) := by
  have hw : ∀ j : Fin 128, ∀ h : Fin 2, (IntOp.addi (BitVec.ofNat 32 j.val) (BitVec.ofNat 32 (128 * h.val))).toInt = ((j.val + 128 * h.val : ℕ) : ℤ) := by decide +kernel
  obtain ⟨h', rfl⟩ : ∃ h' : Fin 2, h = 128 * h'.val := by
    rcases hh with rfl | rfl
    · exact ⟨0, rfl⟩
    · exact ⟨1, rfl⟩
  show (((IntOp.addi (BitVec.ofNat 32 j) (BitVec.ofNat 32 (128 * h'.val))).toInt : ℝ) : EReal) = _
  rw [hw ⟨j, hj⟩ h']
  norm_cast

/-- The index the kernel finds. -/
theorem exists_index {A : EReal} (hA : Good A) : ∃ n : ℕ, n ≤ 255 ∧
    ((n = 0 ∧ A = 0) ∨ (10 ≤ n ∧ ((7 / 4 * (2 : ℝ) ^ ((n : ℤ) - 128) : ℝ) : EReal) ≤ A ∧
      A < ((7 / 4 * (2 : ℝ) ^ ((n : ℤ) - 127) : ℝ) : EReal))) ∧
    ∀ j h : ℕ, (h = 0 ∨ h = 128) → j < 128 → (A < thr j (BitVec.ofNat 32 h) ↔ n < j + h) := by
  rcases hA with rfl | ⟨n, hn, hn', hlo, hhi⟩
  · refine ⟨0, by omega, .inl ⟨rfl, rfl⟩, fun j h hh hj => ?_⟩
    by_cases h2 : 2 ≤ j + h
    · rw [thr_ge j h hh hj h2]
      exact iff_of_true (by exact_mod_cast (by positivity : (0 : ℝ) < 7 / 4 * (2 : ℝ) ^ (((j + h : ℕ) : ℤ) - 128))) (by omega)
    · obtain rfl : h = 0 := by omega
      obtain rfl | rfl : j = 0 ∨ j = 1 := by omega
      · rw [thr_zero]; simp
      · exact iff_of_true thr_one.1 (by omega)
  · refine ⟨n, hn', .inr ⟨hn, hlo, hhi⟩, fun j h hh hj => ?_⟩
    by_cases h2 : 2 ≤ j + h
    · rw [thr_ge j h hh hj h2]
      constructor
      · intro hlt
        by_contra hle
        have h1 := EReal.coe_lt_coe_iff.mp (hlo.trans_lt hlt)
        have : (2 : ℝ) ^ (((j + h : ℕ) : ℤ) - 128) ≤ (2 : ℝ) ^ ((n : ℤ) - 128) :=
          zpow_le_zpow_right₀ (by norm_num) (by omega)
        linarith
      · intro hlt
        refine hhi.trans_le (EReal.coe_le_coe_iff.mpr ?_)
        have : (2 : ℝ) ^ ((n : ℤ) - 127) ≤ (2 : ℝ) ^ (((j + h : ℕ) : ℤ) - 128) :=
          zpow_le_zpow_right₀ (by norm_num) (by omega)
        linarith
    · obtain rfl : h = 0 := by omega
      have h10 : ((7 / 4 * (2 : ℝ) ^ ((10 : ℤ) - 128) : ℝ) : EReal) ≤ A := by
        refine le_trans (EReal.coe_le_coe_iff.mpr ?_) hlo
        exact mul_le_mul_of_nonneg_left (zpow_le_zpow_right₀ (by norm_num) (by omega)) (by norm_num)
      obtain rfl | rfl : j = 0 ∨ j = 1 := by omega
      · rw [thr_zero]; simp
      · exact iff_of_false (not_lt.mpr (thr_one.2.le.trans h10)) (by omega)

/-- The fold of the lanes is that index. -/
theorem kMax_eq {A : EReal} {n : ℕ} (hn : n ≤ 255)
    (h : ∀ j h : ℕ, (h = 0 ∨ h = 128) → j < 128 → (A < thr j (BitVec.ofNat 32 h) ↔ n < j + h)) :
    kMax A = ((n : ℝ) : EReal) := by
  have hl : ∀ j h' : ℕ, (h' = 0 ∨ h' = 128) → j < 128 →
      lane A j (BitVec.ofNat 32 h') = if n < j + h' then 0 else (((j + h' : ℕ) : ℝ) : EReal) := by
    intro j h' hh hj
    unfold lane
    simp only [h j h' hh hj, sitofp_lane j h' hh hj]
  have hle : ∀ j h' : ℕ, (h' = 0 ∨ h' = 128) → j < 128 → lane A j (BitVec.ofNat 32 h') ≤ ((n : ℝ) : EReal) := by
    intro j h' hh hj
    rw [hl j h' hh hj]
    split
    · exact_mod_cast Nat.cast_nonneg n
    · exact_mod_cast (by omega : j + h' ≤ n)
  have hneg : Ideal.ofBits .f32 4286578688#32 = ⊥ := by simp [Ideal.ofBits, Ideal.ieee]
  apply le_antisymm
  · refine (Finset.fold_max_le _).mpr ⟨by rw [hneg]; exact bot_le, fun j _ => ?_⟩
    exact max_le (max_le (by exact_mod_cast Nat.cast_nonneg n) (hle j 0 (.inl rfl) j.isLt)) (hle j 128 (.inr rfl) j.isLt)
  · refine (Finset.le_fold_max _).mpr (.inr ?_)
    rcases Nat.lt_or_ge n 128 with h0 | h1
    · refine ⟨⟨n, h0⟩, Finset.mem_univ _, le_max_of_le_left (le_max_of_le_right ?_)⟩
      rw [show (0#32) = BitVec.ofNat 32 0 from rfl, hl n 0 (.inl rfl) h0]
      simp
    · refine ⟨⟨n - 128, by omega⟩, Finset.mem_univ _, le_max_of_le_right ?_⟩
      rw [show (128#32) = BitVec.ofNat 32 128 from rfl]
      simp only
      rw [hl (n - 128) 128 (.inr rfl) (by omega), if_neg (by omega), show n - 128 + 128 = n by omega]

/-- The word made from the index. -/
theorem kWord_eq {A : EReal} {n : ℕ} (hn : n ≤ 255) (h : kMax A = ((n : ℝ) : EReal)) :
    kWord A = BitVec.ofNat 16 (128 * n) := by
  have hw : ∀ n : Fin 256, IntOp.muli (BitVec.setWidth 16 (BitVec.ofNat 32 n.val)) 128#16 = BitVec.ofNat 16 (128 * n.val) := by decide +kernel
  unfold kWord
  rw [h]
  rw [show (FloatOps.fptosi (F := Ideal) (φ := .f32) 32 ((n : ℝ) : EReal)) = BitVec.ofNat 32 n from ?_]
  · exact hw ⟨n, by omega⟩
  · show Ideal.fptosi 32 ((n : ℝ) : EReal) = _
    unfold Ideal.fptosi
    rw [Ideal.toIntClamped_coe, if_pos (Nat.cast_nonneg n), Int.floor_natCast, min_eq_right (by norm_num; omega),
      max_eq_right (by norm_num)]
    exact BitVec.ofInt_natCast 32 n

theorem kScale_zero : kScale 0 = 1 ∧ kInv 0 = 1 := by
  obtain ⟨n, hn, hc, h⟩ := exists_index (A := 0) (.inl rfl)
  have h0 : n = 0 := by
    rcases hc with ⟨h, _⟩ | ⟨_, h, _⟩
    · exact h
    · exact absurd h (not_le.mpr (by exact_mod_cast (by positivity : (0 : ℝ) < 7 / 4 * (2 : ℝ) ^ ((n : ℤ) - 128))))
  subst h0
  have hk := kWord_eq hn (kMax_eq hn h)
  unfold kScale kInv
  rw [hk]
  have e1 : Scalar.select (IntOp.cmpi .slt (BitVec.ofNat 16 (128 * 0)) 1280#16) (16256#16) (IntOp.subi (BitVec.ofNat 16 (128 * 0)) (1024#16)) = 16256#16 := by decide +kernel
  have e2 : Scalar.select (IntOp.cmpi .slt (BitVec.ofNat 16 (128 * 0)) 1280#16) (16256#16) (IntOp.subi (33536#16) (BitVec.ofNat 16 (128 * 0))) = 16256#16 := by decide +kernel
  rw [e1, e2]
  exact ⟨Ideal.ofBits_one_bf16, Ideal.ofBits_one_bf16⟩

/-- The kernel's scale and reciprocal at a magnitude that the table places at `n`. -/
theorem kScale_of {A : EReal} {n : ℕ} (h10 : 10 ≤ n) (hn : n ≤ 255) (h : kMax A = ((n : ℝ) : EReal)) :
    kScale A = (((2 : ℝ) ^ ((n : ℤ) - 135) : ℝ) : EReal) ∧ kInv A = (((2 : ℝ) ^ (135 - (n : ℤ)) : ℝ) : EReal) := by
  have e1 : ∀ n : Fin 256, 10 ≤ n.val → Scalar.select (IntOp.cmpi .slt (BitVec.ofNat 16 (128 * n.val)) 1280#16) (16256#16) (IntOp.subi (BitVec.ofNat 16 (128 * n.val)) (1024#16)) = BitVec.ofNat 16 (128 * (n.val - 8)) := by decide +kernel
  have e2 : ∀ n : Fin 256, 10 ≤ n.val → Scalar.select (IntOp.cmpi .slt (BitVec.ofNat 16 (128 * n.val)) 1280#16) (16256#16) (IntOp.subi (33536#16) (BitVec.ofNat 16 (128 * n.val))) = BitVec.ofNat 16 (128 * (262 - n.val)) := by decide +kernel
  have hk := kWord_eq hn h
  unfold kScale kInv
  rw [hk, e1 ⟨n, by omega⟩ h10, e2 ⟨n, by omega⟩ h10]
  constructor
  · rw [ofBits_exponent ⟨n - 8, by omega⟩ (by simp only; omega)]
    congr 2
    push_cast [Nat.cast_sub (by omega : 8 ≤ n)]; ring
  · rw [ofBits_exponent ⟨262 - n, by omega⟩ (by simp only; omega)]
    congr 2
    push_cast [Nat.cast_sub (by omega : n ≤ 262)]; ring

/-- The candidates are the powers of two. -/
theorem cand_eq (j : Fin 254) : cand j = (((2 : ℝ) ^ ((j.val : ℤ) - 126) : ℝ) : EReal) := by
  have hw : ∀ j : Fin 254, (IntOp.addi (BitVec.ofNat 32 j.val) 4294967170#32).toInt = (j.val : ℤ) - 126 := by decide +kernel
  show Ideal.exp2 (((IntOp.addi (BitVec.ofNat 32 j.val) 4294967170#32).toInt : ℝ) : EReal) = _
  rw [hw j]
  show ((Real.rpow 2 (((j.val : ℤ) - 126 : ℤ) : ℝ) : ℝ) : EReal) = _
  congr 1
  exact Real.rpow_intCast 2 _

theorem ofBits_448 : Ideal.ofBits .f32 1138753536#32 = ((448 : ℝ) : EReal) := by
  have : Ideal.ofBits .f32 1138753536#32 = (((8388608 + 6291456 : ℝ) * (2 : ℝ) ^ (-15 : ℤ) : ℝ) : EReal) := by
    simp [Ideal.ofBits, Ideal.ieee]
    norm_num
    exact_mod_cast (by norm_num : (14680064 : ℝ) * (1 / 32768) = (8388608 + 6291456) * (1 / 32768))
  rw [this]; norm_num

/-- The least candidate above a magnitude that the table places at `n`. -/
theorem rMin_of {A : EReal} {n : ℕ} (h10 : 10 ≤ n) (hn : n ≤ 255)
    (hlo : ((7 / 4 * (2 : ℝ) ^ ((n : ℤ) - 128) : ℝ) : EReal) ≤ A)
    (hhi : A < ((7 / 4 * (2 : ℝ) ^ ((n : ℤ) - 127) : ℝ) : EReal)) :
    rMin A = (((2 : ℝ) ^ ((n : ℤ) - 135) : ℝ) : EReal) := by
  have hinf : Ideal.ofBits .f32 2139095040#32 = ⊤ := by simp [Ideal.ofBits, Ideal.ieee]
  have hp : ∀ j : Fin 254, Ideal.ofBits .f32 1138753536#32 * cand j = ((7 / 4 * (2 : ℝ) ^ ((j.val : ℤ) - 118) : ℝ) : EReal) := by
    intro j
    rw [cand_eq, ofBits_448, ← EReal.coe_mul]
    congr 1
    rw [show ((j.val : ℤ) - 118) = ((j.val : ℤ) - 126) + 8 by ring, zpow_add₀ (by norm_num)]
    norm_num
    ring
  unfold rMin
  simp only [hp, hinf]
  apply le_antisymm
  · refine Finset.fold_min_le _ |>.mpr (.inr ⟨⟨n - 9, by omega⟩, Finset.mem_univ _, ?_⟩)
    have e : (((n - 9 : ℕ) : ℤ) - 118) = (n : ℤ) - 127 := by push_cast [Nat.cast_sub (by omega : 9 ≤ n)]; ring
    simp only [e]
    rw [if_pos hhi, cand_eq ⟨n - 9, by omega⟩]
    simp only
    rw [show (((n - 9 : ℕ) : ℤ) - 126) = (n : ℤ) - 135 by push_cast [Nat.cast_sub (by omega : 9 ≤ n)]; ring]
  · refine Finset.le_fold_min _ |>.mpr ⟨le_top, fun j _ => ?_⟩
    split
    · rename_i hlt
      rw [cand_eq, EReal.coe_le_coe_iff]
      refine zpow_le_zpow_right₀ (by norm_num) ?_
      have h1 := EReal.coe_lt_coe_iff.mp (hlo.trans_lt hlt)
      have h2 : (2 : ℝ) ^ ((n : ℤ) - 128) < (2 : ℝ) ^ ((j.val : ℤ) - 118) := by linarith
      have h3 := (zpow_lt_zpow_iff_right₀ (by norm_num : (1 : ℝ) < 2)).mp h2
      omega
    · exact le_top

/-- The kernel's scale is the reference's. -/
theorem kScale_eq {A : EReal} (hA : Good A) : kScale A = rScale A := by
  unfold rScale
  split
  · rename_i h; rw [h, kScale_zero.1]
  · rename_i h0
    obtain ⟨n, hn, hc, h⟩ := exists_index hA
    rcases hc with ⟨_, h⟩ | ⟨h10, hlo, hhi⟩
    · exact absurd h h0
    · rw [rMin_of h10 hn hlo hhi, (kScale_of h10 hn (kMax_eq hn h)).1]

/-- The kernel's reciprocal is the reference's quotient. -/
theorem kInv_eq {A : EReal} (hA : Good A) : kInv A = Ideal.div 1 (rScale A) := by
  unfold rScale
  split
  · rename_i h; rw [h, kScale_zero.2]
    rw [show (1 : EReal) = ((1 : ℝ) : EReal) from rfl, Ideal.div_coe one_ne_zero]
    norm_num
  · rename_i h0
    obtain ⟨n, hn, hc, h⟩ := exists_index hA
    rcases hc with ⟨_, h⟩ | ⟨h10, hlo, hhi⟩
    · exact absurd h h0
    · rw [rMin_of h10 hn hlo hhi, (kScale_of h10 hn (kMax_eq hn h)).2, Ideal.div_coe (by positivity), one_mul]
      congr 1
      rw [show (135 - (n : ℤ)) = -((n : ℤ) - 135) by ring, zpow_neg, one_div]

/-- What the precondition says of a magnitude. -/
theorem good_of_range {A : EReal}
    (h : A = 0 ∨ ((7 / 4 * (2 : ℝ) ^ (-118 : ℤ) : ℝ) : EReal) ≤ A ∧ A ≤ ((255 * (2 : ℝ) ^ (120 : ℤ) : ℝ) : EReal)) :
    Good A := by
  rcases h with h | ⟨hlo, hhi⟩
  · exact .inl h
  right
  induction A with
  | bot => exact absurd hlo (not_le.mpr (EReal.bot_lt_coe _))
  | top => exact absurd hhi (not_le.mpr (EReal.coe_lt_top _))
  | coe a =>
    rw [EReal.coe_le_coe_iff] at hlo hhi
    have hpos : 0 < a := lt_of_lt_of_le (by positivity) hlo
    obtain ⟨e, he1, he2⟩ := exists_mem_Ico_zpow (x := a / (7 / 4)) (y := (2 : ℝ)) (by positivity) (by norm_num)
    have h1 : (2 : ℝ) ^ (-118 : ℤ) < (2 : ℝ) ^ (e + 1) := lt_of_le_of_lt (by linarith) he2
    have h2 : (2 : ℝ) ^ e < (2 : ℝ) ^ (128 : ℤ) := lt_of_le_of_lt he1 (by norm_num at hhi ⊢; linarith)
    have h3 := (zpow_lt_zpow_iff_right₀ (by norm_num : (1 : ℝ) < 2)).mp h1
    have h4 := (zpow_lt_zpow_iff_right₀ (by norm_num : (1 : ℝ) < 2)).mp h2
    obtain ⟨n, hn⟩ : ∃ n : ℕ, (n : ℤ) = e + 128 := ⟨(e + 128).toNat, by omega⟩
    refine ⟨n, by omega, by omega, EReal.coe_le_coe_iff.mpr ?_, EReal.coe_lt_coe_iff.mpr ?_⟩
    · rw [show (n : ℤ) - 128 = e by omega]; linarith
    · rw [show (n : ℤ) - 127 = e + 1 by omega]; linarith

end Cert.Scale
-- ==== Proof.Rows.lean ====
module
public import proofs.«01_k».proof.Proof.Scale
@[expose] public section
set_option maxRecDepth 16384

/-! # What the five results are, row by row

A token's row `f` (5120 numbers, 40 groups of 128) is quantised group by group, multiplied into the
dequantised weights and normalised. The functions here say what each result holds at one index, with
the scale that the kernel makes; `Cert.Scale` relates it to the reference's. -/

noncomputable section
namespace Cert.Rows
open Idealize.ShloMosaic Idealize.SL.Sem Cert.Scale

/-- The largest magnitude of group `g` of a row. -/
def grpMax (f : Fin 5120 → EReal) (g : Fin 40) : EReal :=
  Finset.fold max (Ideal.ofBits .bf16 65408#16)
    (fun l : Fin 128 => FloatOps.absf (F := Ideal) (φ := .bf16) (f ⟨128 * g.val + l.val, by omega⟩)) Finset.univ

/-- The group of column `k`. -/
def grp (k : Fin 5120) : Fin 40 := ⟨k.val / 128, by omega⟩

/-- The code of column `k`. -/
def code (f : Fin 5120 → EReal) (k : Fin 5120) : EReal :=
  min (Ideal.ofBits .f32 1138753536#32) (max (Ideal.ofBits .f32 3286237184#32) (f k * kInv (grpMax f (grp k))))

/-- The dequantised entry of column `k`. -/
def deq (f : Fin 5120 → EReal) (k : Fin 5120) : EReal := code f k * kScale (grpMax f (grp k))

/-- The dequantised weight: one scale for each block of 128 rows and 128 columns. -/
def wdq (W : Fin 2112 → Fin 5120 → EReal) (s : Fin 17 → Fin 40 → EReal) (n : Fin 2112) (k : Fin 5120) : EReal :=
  W n k * s ⟨n.val / 128, by omega⟩ (grp k)

/-- The projection of a row to output feature `n`. -/
def proj (f : Fin 5120 → EReal) (w : Fin 2112 → Fin 5120 → EReal) (n : Fin 2112) : EReal :=
  ∑ k : Fin 5120, deq f k * w n k

/-- The query's compressed part: features 0 to 1535, normalised and multiplied by `γ`. -/
def query (p : Fin 2112 → EReal) (γ : Fin 1536 → EReal) (n : Fin 1536) : EReal :=
  p ⟨n.val, by omega⟩ * Ideal.rsqrt (Ideal.div (∑ j : Fin 1536, p ⟨j.val, by omega⟩ * p ⟨j.val, by omega⟩)
    (Ideal.ofBits .f32 1153433600#32) + Ideal.ofBits .f32 897988541#32) * γ n

/-- The key's and value's compressed part: features 1536 to 2047, normalised and multiplied by `γ`. -/
def keyValue (p : Fin 2112 → EReal) (γ : Fin 512 → EReal) (n : Fin 512) : EReal :=
  p ⟨1536 + n.val, by omega⟩ * Ideal.rsqrt (Ideal.div (∑ j : Fin 512, p ⟨1536 + j.val, by omega⟩ * p ⟨1536 + j.val, by omega⟩)
    (Ideal.ofBits .f32 1140850688#32) + Ideal.ofBits .f32 897988541#32) * γ n

/-- The key's part with a position: features 2048 to 2111. -/
def position (p : Fin 2112 → EReal) (n : Fin 64) : EReal := p ⟨2048 + n.val, by omega⟩

end Cert.Rows
-- ==== Proof.Quant.lean ====
module
public import proofs.«01_k».proof.Proof.Gen.KernelIdeal.Skeleton
public import proofs.«01_k».proof.Proof.Rows
@[expose] public section
set_option maxRecDepth 16384

/-! # One group's payloads

The kernel's body is unrolled over the 40 groups. These lemmas say what one group's stores hold, at
any group: the codes, the dequantised entries and the scale, as functions of the whole block `X` of
256 rows. -/

noncomputable section
namespace Cert.KernelIdeal.Quant
open Cert.KernelIdeal Cert.KernelIdeal.Gen Idealize.ShloMosaic Idealize.SL.Sem Cert.Scale Cert.Rows

/-- Row `r` of a block. -/
def row {N : Nat} (X : (⟨2, ![N, 5120]⟩ : Shape).Idx → EReal) (r : Fin N) : Fin 5120 → EReal := fun k => X (ix2 r k)

variable (m : Memref sig .tc .vmem S256x5120 .bf16) (hm : m.IsWhole) (X : Vec Ideal S256x5120 .bf16)

/-- The columns `o` to `o + 127` of the block, as the kernel loads them. -/
abbrev slice (o : Nat) (inb : ∀ a, (![0, o] : Fin 2 → Nat) a + S256x128.size a ≤ S256x5120.size a) : Vec Ideal S256x128 .bf16 :=
  View.readAt (Elt Ideal) m.view (Rect.unit (s := S256x5120) ![0, o] S256x128.size inb).toLoadRect (hm.unread X)

theorem slice_apply {o : Nat} (inb : ∀ a, (![0, o] : Fin 2 → Nat) a + S256x128.size a ≤ S256x5120.size a) (ho : o + 128 ≤ 5120)
    (r : Fin 256) (l : Fin 128) : slice m hm X o inb (ix2 r l) = row X r ⟨o + l.val, by omega⟩ := by
  unfold slice row
  rw [View.readAt_eq_ld, Memref.IsWhole.read_unread]
  pointwise

theorem max_slice {o : Nat} (inb : ∀ a, (![0, o] : Fin 2 → Nat) a + S256x128.size a ≤ S256x5120.size a) (ho : o % 128 = 0) (h : o / 128 < 40)
    (r : Fin 256) : Finset.fold max (Ideal.ofBits .bf16 65408#16)
      (fun l : Fin 128 => FloatOps.absf (F := Ideal) (φ := .bf16) (slice m hm X o inb (ix2 r l))) Finset.univ = grpMax (row X r) ⟨o / 128, h⟩ := by
  unfold grpMax
  congr 1
  funext l
  rw [slice_apply m hm X inb (by omega)]
  congr 2
  apply Fin.ext
  simp only
  omega

/-- A group's codes. -/
theorem codes_payload (v : Vec Ideal S256x128 .bf16) (r : Fin 256) (l : Fin 128) :
    k0_pay868 (F := Ideal) (k0_pay863 v) (k0_pay864 v) (ix2 r l) =
      min (Ideal.ofBits .f32 1138753536#32) (max (Ideal.ofBits .f32 3286237184#32) (v (ix2 r l) * kInv
        (Finset.fold max (Ideal.ofBits .bf16 65408#16) (fun l : Fin 128 => FloatOps.absf (F := Ideal) (φ := .bf16) (v (ix2 r l))) Finset.univ))) := by
  pointwise [k0_pay868, k0_pay863, k0_pay864, k0_pay865, k0_pay866]
  rfl

/-- A group's scale. -/
theorem scale_payload (v : Vec Ideal S256x128 .bf16) (r : Fin 256) (l : Fin 128) :
    k0_pay867 (F := Ideal) (k0_pay864 v) (ix2 r l) = kScale
        (Finset.fold max (Ideal.ofBits .bf16 65408#16) (fun l : Fin 128 => FloatOps.absf (F := Ideal) (φ := .bf16) (v (ix2 r l))) Finset.univ) := by
  pointwise [k0_pay867, k0_pay863, k0_pay864, k0_pay865, k0_pay866]
  rfl

/-- What the codes' output holds at an index of the block. -/
def codeB (y : S256x5120.Idx) : EReal := code (row X (y 0)) (y 1)
/-- What the dequantised block holds at an index. -/
def deqB (y : S256x5120.Idx) : EReal := deq (row X (y 0)) (y 1)

/-- Where a slice's index sits in the block. -/
theorem emb_slice {o : Nat} (inb : ∀ a, (![0, o] : Fin 2 → Nat) a + S256x128.size a ≤ S256x5120.size a) (ho : o + 128 ≤ 5120)
    (r : Fin 256) (l : Fin 128) :
    (Rect.unit (s := S256x5120) ![0, o] S256x128.size inb).emb (ix2 r l) = ix2 r ⟨o + l.val, by omega⟩ := by
  show (Rect.unit (s := S256x5120) ![0, o] S256x128.size inb).toLoadRect.idx (ix2 r l) = _
  pointwise

theorem grp_slice {o : Nat} (ho : o % 128 = 0) (h : o + 128 ≤ 5120) (l : Fin 128) :
    grp ⟨o + l.val, by omega⟩ = ⟨o / 128, by omega⟩ := by
  unfold grp
  apply Fin.ext
  simp only
  omega

/-- Any group's store into the codes' block is a piece of `codeB`. -/
theorem codes_piece (o : Nat) (inb : ∀ a, (![0, o] : Fin 2 → Nat) a + S256x128.size a ≤ S256x5120.size a) (ho : o % 128 = 0)
    (x : S256x128.Idx) :
    k0_pay868 (F := Ideal) (k0_pay863 (slice m hm X o inb)) (k0_pay864 (slice m hm X o inb)) x
      = codeB X ((Rect.unit (s := S256x5120) ![0, o] S256x128.size inb).emb x) := by
  have h1 : o + 128 ≤ 5120 := inb 1
  obtain ⟨r, l, rfl⟩ : ∃ (r : Fin 256) (l : Fin 128), x = ix2 r l := ⟨x 0, x 1, eq_ix2 x⟩
  rw [codes_payload, max_slice m hm X inb ho (by omega), slice_apply m hm X inb h1, emb_slice inb h1]
  show _ = code (row X r) ⟨o + l.val, _⟩
  unfold code
  rw [grp_slice ho h1]

/-- Any group's store into the dequantised block is a piece of `deqB`. -/
theorem deq_piece (o : Nat) (inb : ∀ a, (![0, o] : Fin 2 → Nat) a + S256x128.size a ≤ S256x5120.size a) (ho : o % 128 = 0)
    (x : S256x128.Idx) :
    k0_pay869 (F := Ideal) (k0_pay863 (slice m hm X o inb)) (k0_pay864 (slice m hm X o inb)) x
      = deqB X ((Rect.unit (s := S256x5120) ![0, o] S256x128.size inb).emb x) := by
  have h1 : o + 128 ≤ 5120 := inb 1
  have hc := codes_piece m hm X o inb ho x
  obtain ⟨r, l, rfl⟩ : ∃ (r : Fin 256) (l : Fin 128), x = ix2 r l := ⟨x 0, x 1, eq_ix2 x⟩
  have hs := scale_payload (slice m hm X o inb) r l
  rw [max_slice m hm X inb ho (by omega)] at hs
  rw [emb_slice inb h1] at hc ⊢
  pointwise [k0_pay869]
  rw [hc, hs]
  show _ = deq (row X r) ⟨o + l.val, _⟩
  unfold deq
  rw [grp_slice ho h1]
  rfl

/-! ## The scales

The scales are collected in one register of 128 lanes, one group after the other: lane `g` takes
group `g`'s scale. -/

/-- Group `g`'s step: lane `g` takes the group's scale, the other lanes stay. -/
def scaleStep (g : BitVec 16) (v : Vec Ideal S256x128 .bf16) (prev : FVec Ideal S256x128 .bf16) : FVec Ideal S256x128 .bf16 :=
  select (cmpi .eq (iota .tc S256x128 16 [1] iota_S256x128_d1_w16) (broadcast S256x128 g)) (k0_pay867 (k0_pay864 v)) prev

/-- The first `n` lanes hold their groups' scales. -/
def ScalesTo (n : Nat) (v : FVec Ideal S256x128 .bf16) : Prop :=
  ∀ (r : Fin 256) (l : Fin 128) (h : l.val < 40), l.val < n → v (ix2 r l) = kScale (grpMax (row X r) ⟨l.val, h⟩)

theorem scalesTo_zero (v : FVec Ideal S256x128 .bf16) : ScalesTo X 0 v := fun _ _ _ h => absurd h (by omega)

theorem scalesTo_step (n : Nat) (hn : n < 40) (o : Nat) (ho : o = 128 * n)
    (inb : ∀ a, (![0, o] : Fin 2 → Nat) a + S256x128.size a ≤ S256x5120.size a) (prev : FVec Ideal S256x128 .bf16) (h : ScalesTo X n prev) :
    ScalesTo X (n + 1) (scaleStep (BitVec.ofNat 16 n) (slice m hm X o inb) prev) := by
  subst ho
  intro r l h40 hl
  have hs := scale_payload (slice m hm X (128 * n) inb) r l
  rw [max_slice m hm X inb (by omega) (by omega)] at hs
  unfold scaleStep
  show Scalar.select (IntOp.cmpi .eq (iota .tc S256x128 16 [1] iota_S256x128_d1_w16 (ix2 r l)) (BitVec.ofNat 16 n)) _ _ = _
  have hi : iota .tc S256x128 16 [1] iota_S256x128_d1_w16 (ix2 r l) = BitVec.ofNat 16 l.val := by
    pointwise
  rw [hi, hs]
  by_cases e : l.val = n
  · rw [show IntOp.cmpi .eq (BitVec.ofNat 16 l.val) (BitVec.ofNat 16 n) = 1#1 by rw [e]; simp [IntOp.cmpi]]
    show kScale _ = _
    congr 2
    apply Fin.ext
    simp only
    omega
  · have hne : BitVec.ofNat 16 l.val ≠ BitVec.ofNat 16 n := by
      intro h
      have := congrArg BitVec.toNat h
      simp only [BitVec.toNat_ofNat] at this
      omega
    rw [show IntOp.cmpi .eq (BitVec.ofNat 16 l.val) (BitVec.ofNat 16 n) = 0#1 by
      show BitVec.ofBool (_ == _) = _
      rw [beq_eq_false_iff_ne.mpr hne]; rfl]
    show prev (ix2 r l) = _
    exact h r l h40 (by omega)

/-- What the scales' output holds at an index of the block. -/
def scaleB (y : S256x40.Idx) : EReal := kScale (grpMax (row X (y 0)) (y 1))

/-- The scales' store. -/
theorem scales_store (v : FVec Ideal S256x128 .bf16) (h : ScalesTo X 40 v) (y : S256x40.Idx) :
    extractStridedSlice S256x40 ![0, 0] (extf .f32 v bitsLt_bf16_f32) slices_S256x128_o0_0_S256x40 y = scaleB X y := by
  obtain ⟨r, g, rfl⟩ : ∃ (r : Fin 256) (g : Fin 40), y = ix2 r g := ⟨y 0, y 1, eq_ix2 y⟩
  pointwise
  exact h r ⟨g.val, by omega⟩ g.isLt g.isLt

/-! ## The weights

Point 0 dequantises the weights block by block, 128 rows (the last time 64) by 128 columns. -/

variable (ms : Memref sig .tc .smem S17x40 .f32) (hms : ms.IsWhole) (S : Vec Ideal S17x40 .f32)
variable (mw : Memref sig .tc .vmem S2112x5120 .fp8e4m3) (hmw : mw.IsWhole) (W : Vec Ideal S2112x5120 .fp8e4m3)

/-- One scale, as the kernel loads it. -/
abbrev scaleWord (a b : Nat) (inb : ∀ i, (![a, b] : Fin 2 → Nat) i + S1x1.size i ≤ S17x40.size i) (h : 0 < S1x1.numel) : EReal :=
  View.readAt (Elt Ideal) ms.view (Rect.unit (s := S17x40) ![a, b] S1x1.size inb).toLoadRect (hms.unread S) (Shape.Idx.first h)

theorem scaleWord_eq (a b : Nat) (inb : ∀ i, (![a, b] : Fin 2 → Nat) i + S1x1.size i ≤ S17x40.size i) (h : 0 < S1x1.numel)
    (ha : a < 17) (hb : b < 40) : scaleWord ms hms S a b inb h = S (ix2 ⟨a, ha⟩ ⟨b, hb⟩) := by
  unfold scaleWord
  rw [View.readAt_eq_ld, Memref.IsWhole.read_unread, show (Shape.Idx.first h : S1x1.Idx) = ix2 0 0 from by
    funext i; match i with
    | 0 => rfl
    | 1 => rfl]
  pointwise

/-- What the dequantised weights hold at an index. -/
def weightB (y : S2112x5120.Idx) : EReal := wdq (row W) (fun a b => S (ix2 a b)) (y 0) (y 1)

theorem weight_piece (a b p o : Nat) (inb : ∀ i, (![a, b] : Fin 2 → Nat) i + S1x1.size i ≤ S17x40.size i) (h : 0 < S1x1.numel)
    (inw : ∀ i, (![p, o] : Fin 2 → Nat) i + S128x128.size i ≤ S2112x5120.size i) (hp : p = 128 * a) (ho : o = 128 * b) (x : S128x128.Idx) :
    k0_pay1 (F := Ideal) (scaleWord ms hms S a b inb h)
      (View.readAt (Elt Ideal) mw.view (Rect.unit (s := S2112x5120) ![p, o] S128x128.size inw).toLoadRect (hmw.unread W)) x
      = weightB S W ((Rect.unit (s := S2112x5120) ![p, o] S128x128.size inw).emb x) := by
  have h0 : p + 128 ≤ 2112 := inw 0
  have h1 : o + 128 ≤ 5120 := inw 1
  obtain ⟨r, l, rfl⟩ : ∃ (r : Fin 128) (l : Fin 128), x = ix2 r l := ⟨x 0, x 1, eq_ix2 x⟩
  rw [scaleWord_eq ms hms S a b inb h (by omega) (by omega),
    show (Rect.unit (s := S2112x5120) ![p, o] S128x128.size inw).emb (ix2 r l) = ix2 ⟨p + r.val, by omega⟩ ⟨o + l.val, by omega⟩ from by
      show (Rect.unit (s := S2112x5120) ![p, o] S128x128.size inw).toLoadRect.idx (ix2 r l) = _
      pointwise]
  rw [View.readAt_eq_ld, Memref.IsWhole.read_unread]
  pointwise [k0_pay1]
  show _ = wdq (row W) (fun a b => S (ix2 a b)) ⟨p + r.val, _⟩ ⟨o + l.val, _⟩
  unfold wdq row grp
  subst hp ho
  congr 3
  · apply Fin.ext; simp only; omega
  · apply Fin.ext; simp only; omega

theorem weight_piece_last (a b p o : Nat) (inb : ∀ i, (![a, b] : Fin 2 → Nat) i + S1x1.size i ≤ S17x40.size i) (h : 0 < S1x1.numel)
    (inw : ∀ i, (![p, o] : Fin 2 → Nat) i + S64x128.size i ≤ S2112x5120.size i) (hp : p = 128 * a) (ho : o = 128 * b) (x : S64x128.Idx) :
    k0_pay861 (F := Ideal) (scaleWord ms hms S a b inb h)
      (View.readAt (Elt Ideal) mw.view (Rect.unit (s := S2112x5120) ![p, o] S64x128.size inw).toLoadRect (hmw.unread W)) x
      = weightB S W ((Rect.unit (s := S2112x5120) ![p, o] S64x128.size inw).emb x) := by
  have h0 : p + 64 ≤ 2112 := inw 0
  have h1 : o + 128 ≤ 5120 := inw 1
  obtain ⟨r, l, rfl⟩ : ∃ (r : Fin 64) (l : Fin 128), x = ix2 r l := ⟨x 0, x 1, eq_ix2 x⟩
  rw [scaleWord_eq ms hms S a b inb h (by omega) (by omega),
    show (Rect.unit (s := S2112x5120) ![p, o] S64x128.size inw).emb (ix2 r l) = ix2 ⟨p + r.val, by omega⟩ ⟨o + l.val, by omega⟩ from by
      show (Rect.unit (s := S2112x5120) ![p, o] S64x128.size inw).toLoadRect.idx (ix2 r l) = _
      pointwise]
  rw [View.readAt_eq_ld, Memref.IsWhole.read_unread]
  pointwise [k0_pay861]
  show _ = wdq (row W) (fun a b => S (ix2 a b)) ⟨p + r.val, _⟩ ⟨o + l.val, _⟩
  unfold wdq row grp
  subst hp ho
  congr 3
  · apply Fin.ext; simp only; omega
  · apply Fin.ext; simp only; omega

/-! ## The projection and its three results -/

variable (D : Vec Ideal S256x5120 .bf16) (V : Vec Ideal S2112x5120 .bf16)

/-- A row of the product of the dequantised block with the dequantised weights. -/
def projB (r : Fin 256) (n : Fin 2112) : EReal := ∑ k : Fin 5120, D (ix2 r k) * V (ix2 n k)

theorem query_payload (γ : Vec Ideal S1x1536 .bf16) (r : Fin 256) (n : Fin 1536) :
    k0_pay1223 (F := Ideal) D V γ (ix2 r n) = query (projB D V r) (fun j => γ (ix2 0 j)) n := by
  unfold query projB
  pointwise [k0_pay1223, k0_pay1222]

theorem keyValue_payload (γ : Vec Ideal S1x512 .bf16) (r : Fin 256) (n : Fin 512) :
    k0_pay1224 (F := Ideal) D V γ (ix2 r n) = keyValue (projB D V r) (fun j => γ (ix2 0 j)) n := by
  unfold keyValue projB
  pointwise [k0_pay1224, k0_pay1222]

theorem position_payload (r : Fin 256) (n : Fin 64) :
    k0_pay1225 (F := Ideal) D V (ix2 r n) = position (projB D V r) n := by
  unfold position projB
  pointwise [k0_pay1225, k0_pay1222]

/-- The three stores, with what their operands hold. -/
theorem query_store {D D' : Vec Ideal S256x5120 .bf16} {V V' : Vec Ideal S2112x5120 .bf16} {γ γ' : Vec Ideal S1x1536 .bf16}
    (hD : D = D') (hV : V = V') (hγ : γ = γ') (r : Fin 256) (n : Fin 1536) :
    k0_pay1223 (F := Ideal) D V γ (ix2 r n) = query (projB D' V' r) (fun j => γ' (ix2 0 j)) n := by
  rw [hD, hV, hγ, query_payload]

theorem keyValue_store {D D' : Vec Ideal S256x5120 .bf16} {V V' : Vec Ideal S2112x5120 .bf16} {γ γ' : Vec Ideal S1x512 .bf16}
    (hD : D = D') (hV : V = V') (hγ : γ = γ') (r : Fin 256) (n : Fin 512) :
    k0_pay1224 (F := Ideal) D V γ (ix2 r n) = keyValue (projB D' V' r) (fun j => γ' (ix2 0 j)) n := by
  rw [hD, hV, hγ, keyValue_payload]

theorem position_store {D D' : Vec Ideal S256x5120 .bf16} {V V' : Vec Ideal S2112x5120 .bf16}
    (hD : D = D') (hV : V = V') (r : Fin 256) (n : Fin 64) :
    k0_pay1225 (F := Ideal) D V (ix2 r n) = position (projB D' V' r) n := by
  rw [hD, hV, position_payload]

end Cert.KernelIdeal.Quant
-- ==== Proof.BlocksB.lean ====
module
public import proofs.«01_k».proof.Proof.Gen.KernelIdeal.Frame
public import proofs.«01_k».proof.Proof.Quant
public import Idealize.ShloMosaic.Lib.Pipeline.ReadBack
@[expose] public section
set_option maxRecDepth 16384

/-! # What a later grid point leaves

At each of the 48 grid points the body stores the five output blocks, group by group or whole. Case
B is any point after the first, which finds the dequantised weights in the scratch. The lemmas of `Cert.KernelIdeal.Quant` are applied to every store. -/

noncomputable section
namespace Cert.KernelIdeal.Blocks
open Cert.KernelIdeal Cert.KernelIdeal.Gen Idealize.ShloMosaic Idealize.SL.Sem Cert.Scale Cert.Rows Cert.KernelIdeal.Quant

/-- A load of a whole buffer that pieces of `G` tile reads `G`. -/
theorem readCov_pieces {sg : RefSig} {κ : Kind} {sp : Space} {a b : Nat} {e : EltTy} (v : View sg κ sp ⟨2, ![a, b]⟩ e) (G : (⟨2, ![a, b]⟩ : Shape).Idx → Elt Ideal e)
    (L : List (View.Piece (Elt Ideal) ⟨2, ![a, b]⟩ e)) (inb : ∀ i, (![0, 0] : Fin 2 → Nat) i + (⟨2, ![a, b]⟩ : Shape).size i ≤ (⟨2, ![a, b]⟩ : Shape).size i)
    (hc : ∀ y, ∃ p ∈ L, y ∈ p.1.set) (h : View.PiecesOf G L) :
    v.readCov L (Rect.unit (s := ⟨2, ![a, b]⟩) ![0, 0] (⟨2, ![a, b]⟩ : Shape).size inb).toLoadRect = G := by
  rw [View.readCov_eq_canon_ld _ _ _ hc, show View.canon L = G from funext fun y => by
    have := View.canon_append_of_piecesOf G [] L h y (hc y)
    rwa [List.append_nil] at this]
  exact View.ld_unit_lit' inb G (fun i => match i with | 0 => rfl | 1 => rfl)

/-- A load of a whole buffer reads its contents. -/
theorem readAt_whole {sg : RefSig} {κ : Kind} {sp : Space} {a b : Nat} {e : EltTy} (m : Memref sg κ sp ⟨2, ![a, b]⟩ e) (hm : m.IsWhole) (X : (⟨2, ![a, b]⟩ : Shape).Idx → Elt Ideal e)
    (inb : ∀ i, (![0, 0] : Fin 2 → Nat) i + (⟨2, ![a, b]⟩ : Shape).size i ≤ (⟨2, ![a, b]⟩ : Shape).size i) :
    View.readAt (Elt Ideal) m.view (Rect.unit (s := ⟨2, ![a, b]⟩) ![0, 0] (⟨2, ![a, b]⟩ : Shape).size inb).toLoadRect (hm.unread X) = X := by
  rw [View.readAt_eq_ld, Memref.IsWhole.read_unread]
  exact View.ld_unit_lit' inb X (fun i => match i with | 0 => rfl | 1 => rfl)

section caseB

variable (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (hc0 : ¬cond0_0 i) (x0 : Vec Ideal S17x40 .f32) (x1 : Vec Ideal S256x5120 .bf16) (x2 : Vec Ideal S2112x5120 .fp8e4m3) (x3 : Vec Ideal S1x1536 .bf16) (x4 : Vec Ideal S1x512 .bf16) (xs0 : Vec Ideal S2112x5120 .bf16)

/-- The codes' block. -/
theorem codes_B : out0_B_8 c i arg1 harg1 arg2 harg2 arg3 harg3 arg4 harg4 arg5 harg5 arg6 harg6 arg7 harg7 arg8 harg8 arg9 harg9 arg10 harg10 arg11 harg11 arg12 harg12 hc0 x0 x1 x2 x3 x4 xs0 = codeB x1 := by
  funext y
  have hc := cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 xs0 y
  unfold out0_B_8
  rw [View.read_writes_junk_eq_canon]
  revert hc
  frame_open
  intro hc
  refine View.canon_append_of_piecesOf (codeB x1) [] _ ?_ y hc
  repeat' first
    | exact True.intro
    | exact fun x => codes_piece arg2 harg2 x1 _ _ rfl x
    | refine And.intro ?_ ?_

/-- The scales' block. -/
theorem scales_B : out0_B_9 c i arg1 harg1 arg2 harg2 arg3 harg3 arg4 harg4 arg5 harg5 arg6 harg6 arg7 harg7 arg8 harg8 arg9 harg9 arg10 harg10 arg11 harg11 arg12 harg12 hc0 x0 x1 x2 x3 x4 xs0 = scaleB x1 := by
  funext y
  unfold out0_B_9
  rw [View.read_writes_junk_eq_canon]
  frame_open
  rw [View.canon_cons_unit_lit' _ _ _ (by decide)]
  refine scales_store x1 _ ?_ y
  repeat refine scalesTo_step arg2 harg2 x1 _ (by decide) _ rfl _ _ ?_
  exact scalesTo_zero x1 _

/-- The block of `query`. -/
theorem query_B (r : Fin 256) (n : Fin 1536) :
    out0_B_5 c i arg1 harg1 arg2 harg2 arg3 harg3 arg4 harg4 arg5 harg5 arg6 harg6 arg7 harg7 arg8 harg8 arg9 harg9 arg10 harg10 arg11 harg11 arg12 harg12 hc0 x0 x1 x2 x3 x4 xs0 (ix2 r n) = query (projB (deqB x1) xs0 r) (fun j => x3 (ix2 0 j)) n := by
  unfold out0_B_5
  rw [View.read_writes_junk_eq_canon]
  frame_open
  rw [View.canon_cons_unit_lit' _ _ _ (by decide)]
  refine query_store (readCov_pieces arg12.view (deqB x1) _ _ (View.cover_of_tiledL (s := S256x5120) _ S256x128.size (by sl_kernel_rfl)) ?_)
    (readAt_whole arg11 harg11 xs0 _) (readAt_whole arg4 harg4 x3 _) r n
  repeat' first
    | exact True.intro
    | exact fun x => deq_piece arg2 harg2 x1 _ _ rfl x
    | refine And.intro ?_ ?_

/-- The block of `keyValue`. -/
theorem keyValue_B (r : Fin 256) (n : Fin 512) :
    out0_B_6 c i arg1 harg1 arg2 harg2 arg3 harg3 arg4 harg4 arg5 harg5 arg6 harg6 arg7 harg7 arg8 harg8 arg9 harg9 arg10 harg10 arg11 harg11 arg12 harg12 hc0 x0 x1 x2 x3 x4 xs0 (ix2 r n) = keyValue (projB (deqB x1) xs0 r) (fun j => x4 (ix2 0 j)) n := by
  unfold out0_B_6
  rw [View.read_writes_junk_eq_canon]
  frame_open
  rw [View.canon_cons_unit_lit' _ _ _ (by decide)]
  refine keyValue_store (readCov_pieces arg12.view (deqB x1) _ _ (View.cover_of_tiledL (s := S256x5120) _ S256x128.size (by sl_kernel_rfl)) ?_)
    (readAt_whole arg11 harg11 xs0 _) (readAt_whole arg5 harg5 x4 _) r n
  repeat' first
    | exact True.intro
    | exact fun x => deq_piece arg2 harg2 x1 _ _ rfl x
    | refine And.intro ?_ ?_

/-- The block of `position`. -/
theorem position_B (r : Fin 256) (n : Fin 64) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 xs0 (ix2 r n) = position (projB (deqB x1) xs0 r) n := by
  unfold out0_B_7
  rw [View.read_writes_junk_eq_canon]
  frame_open
  rw [View.canon_cons_unit_lit' _ _ _ (by decide)]
  refine position_store (readCov_pieces arg12.view (deqB x1) _ _ (View.cover_of_tiledL (s := S256x5120) _ S256x128.size (by sl_kernel_rfl)) ?_)
    (readAt_whole arg11 harg11 xs0 _) r n
  repeat' first
    | exact True.intro
    | exact fun x => deq_piece arg2 harg2 x1 _ _ rfl x
    | refine And.intro ?_ ?_

end caseB

end Cert.KernelIdeal.Blocks
-- ==== Proof.BlocksA.lean ====
module
public import proofs.«01_k».proof.Proof.BlocksB
@[expose] public section
set_option maxRecDepth 16384

/-! # What the first grid point leaves

Case A is point 0, which dequantises the weights into the scratch, block by block, before it does
what every point does. -/

noncomputable section
namespace Cert.KernelIdeal.Blocks
open Cert.KernelIdeal Cert.KernelIdeal.Gen Idealize.ShloMosaic Idealize.SL.Sem Cert.Scale Cert.Rows Cert.KernelIdeal.Quant

section caseA

variable (c : Dev nD) (i : grid0.Coords) (arg1 : Memref sig .tc .smem S17x40 .f32) (harg1 : arg1.IsWhole) (arg2 : Memref sig .tc .vmem S256x5120 .bf16) (harg2 : arg2.IsWhole) (arg3 : Memref sig .tc .vmem S2112x5120 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x5120 .fp8e4m3) (harg9 : arg9.IsWhole) (arg10 : Memref sig .tc .vmem S256x40 .f32) (harg10 : arg10.IsWhole) (arg11 : Memref sig .tc .vmem S2112x5120 .bf16) (harg11 : arg11.IsWhole) (arg12 : Memref sig .tc .vmem S256x5120 .bf16) (harg12 : arg12.IsWhole) (hc0 : cond0_0 i) (x0 : Vec Ideal S17x40 .f32) (x1 : Vec Ideal S256x5120 .bf16) (x2 : Vec Ideal S2112x5120 .fp8e4m3) (x3 : Vec Ideal S1x1536 .bf16) (x4 : Vec Ideal S1x512 .bf16)

/-- The codes' block. -/
theorem codes_A : out0_A_8 c i arg1 harg1 arg2 harg2 arg3 harg3 arg4 harg4 arg5 harg5 arg6 harg6 arg7 harg7 arg8 harg8 arg9 harg9 arg10 harg10 arg11 harg11 arg12 harg12 hc0 x0 x1 x2 x3 x4 = codeB x1 := by
  funext y
  have hc := cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 y
  unfold out0_A_8
  rw [View.read_writes_junk_eq_canon]
  revert hc
  frame_open
  intro hc
  refine View.canon_append_of_piecesOf (codeB x1) [] _ ?_ y hc
  repeat' first
    | exact True.intro
    | exact fun x => codes_piece arg2 harg2 x1 _ _ rfl x
    | refine And.intro ?_ ?_

/-- The scales' block. -/
theorem scales_A : out0_A_9 c i arg1 harg1 arg2 harg2 arg3 harg3 arg4 harg4 arg5 harg5 arg6 harg6 arg7 harg7 arg8 harg8 arg9 harg9 arg10 harg10 arg11 harg11 arg12 harg12 hc0 x0 x1 x2 x3 x4 = scaleB x1 := by
  funext y
  unfold out0_A_9
  rw [View.read_writes_junk_eq_canon]
  frame_open
  rw [View.canon_cons_unit_lit' _ _ _ (by decide)]
  refine scales_store x1 _ ?_ y
  repeat refine scalesTo_step arg2 harg2 x1 _ (by decide) _ rfl _ _ ?_
  exact scalesTo_zero x1 _

-- 680 stores, one step for each
set_option maxHeartbeats 2000000 in
/-- Every store into the scratch writes its block of the dequantised weights: the last 40 are the blocks of 64 rows. -/
theorem weight_pieces_A : View.PiecesOf (weightB x0 x2) (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.2.1 := by
  frame_open
  iterate 40 (refine ⟨fun x => weight_piece_last arg1 harg1 x0 arg3 harg3 x2 _ _ _ _ _ _ _ (by rfl) (by rfl) x, ?_⟩)
  iterate 640 (refine ⟨fun x => weight_piece arg1 harg1 x0 arg3 harg3 x2 _ _ _ _ _ _ _ (by rfl) (by rfl) x, ?_⟩)
  exact True.intro

/-- The dequantised weights that point 0 leaves in the scratch. -/
theorem weights_A : sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 = weightB x0 x2 := by
  funext y
  have hc := scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 y
  unfold sout0_A_0
  rw [View.read_writes_junk_eq_canon]
  exact View.canon_append_of_piecesOf (weightB x0 x2) [] _ (weight_pieces_A c i arg1 harg1 arg2 harg2 arg3 harg3 arg4 harg4 arg5 harg5 arg6 harg6 arg7 harg7 arg8 harg8 arg9 harg9 arg10 harg10 arg11 harg11 arg12 harg12 hc0 x0 x1 x2 x3 x4) y hc

/-- The block of `query`. -/
theorem query_A (r : Fin 256) (n : Fin 1536) :
    out0_A_5 c i arg1 harg1 arg2 harg2 arg3 harg3 arg4 harg4 arg5 harg5 arg6 harg6 arg7 harg7 arg8 harg8 arg9 harg9 arg10 harg10 arg11 harg11 arg12 harg12 hc0 x0 x1 x2 x3 x4 (ix2 r n) = query (projB (deqB x1) (weightB x0 x2) r) (fun j => x3 (ix2 0 j)) n := by
  unfold out0_A_5
  rw [View.read_writes_junk_eq_canon]
  frame_open
  rw [View.canon_cons_unit_lit' _ _ _ (by decide)]
  refine query_store (readCov_pieces arg12.view (deqB x1) _ _ (View.cover_of_tiledL (s := S256x5120) _ S256x128.size (by sl_kernel_rfl)) ?_)
    (readCov_pieces arg11.view (weightB x0 x2) _ _ (fun y => scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 y) (weight_pieces_A c i arg1 harg1 arg2 harg2 arg3 harg3 arg4 harg4 arg5 harg5 arg6 harg6 arg7 harg7 arg8 harg8 arg9 harg9 arg10 harg10 arg11 harg11 arg12 harg12 hc0 x0 x1 x2 x3 x4)) (readAt_whole arg4 harg4 x3 _) r n
  · repeat' first
      | exact True.intro
      | exact fun x => deq_piece arg2 harg2 x1 _ _ rfl x
      | refine And.intro ?_ ?_

/-- The block of `keyValue`. -/
theorem keyValue_A (r : Fin 256) (n : Fin 512) :
    out0_A_6 c i arg1 harg1 arg2 harg2 arg3 harg3 arg4 harg4 arg5 harg5 arg6 harg6 arg7 harg7 arg8 harg8 arg9 harg9 arg10 harg10 arg11 harg11 arg12 harg12 hc0 x0 x1 x2 x3 x4 (ix2 r n) = keyValue (projB (deqB x1) (weightB x0 x2) r) (fun j => x4 (ix2 0 j)) n := by
  unfold out0_A_6
  rw [View.read_writes_junk_eq_canon]
  frame_open
  rw [View.canon_cons_unit_lit' _ _ _ (by decide)]
  refine keyValue_store (readCov_pieces arg12.view (deqB x1) _ _ (View.cover_of_tiledL (s := S256x5120) _ S256x128.size (by sl_kernel_rfl)) ?_)
    (readCov_pieces arg11.view (weightB x0 x2) _ _ (fun y => scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 y) (weight_pieces_A c i arg1 harg1 arg2 harg2 arg3 harg3 arg4 harg4 arg5 harg5 arg6 harg6 arg7 harg7 arg8 harg8 arg9 harg9 arg10 harg10 arg11 harg11 arg12 harg12 hc0 x0 x1 x2 x3 x4)) (readAt_whole arg5 harg5 x4 _) r n
  · repeat' first
      | exact True.intro
      | exact fun x => deq_piece arg2 harg2 x1 _ _ rfl x
      | refine And.intro ?_ ?_

/-- The block of `position`. -/
theorem position_A (r : Fin 256) (n : Fin 64) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 (ix2 r n) = position (projB (deqB x1) (weightB x0 x2) r) n := by
  unfold out0_A_7
  rw [View.read_writes_junk_eq_canon]
  frame_open
  rw [View.canon_cons_unit_lit' _ _ _ (by decide)]
  refine position_store (readCov_pieces arg12.view (deqB x1) _ _ (View.cover_of_tiledL (s := S256x5120) _ S256x128.size (by sl_kernel_rfl)) ?_)
    (readCov_pieces arg11.view (weightB x0 x2) _ _ (fun y => scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 y) (weight_pieces_A c i arg1 harg1 arg2 harg2 arg3 harg3 arg4 harg4 arg5 harg5 arg6 harg6 arg7 harg7 arg8 harg8 arg9 harg9 arg10 harg10 arg11 harg11 arg12 harg12 hc0 x0 x1 x2 x3 x4)) r n
  · repeat' first
      | exact True.intro
      | exact fun x => deq_piece arg2 harg2 x1 _ _ rfl x
      | refine And.intro ?_ ?_

end caseA

end Cert.KernelIdeal.Blocks
-- ==== Proof.Results.lean ====
module
public import proofs.«01_k».proof.Proof.Rows
@[expose] public section
set_option maxRecDepth 16384

/-! # The five results over the whole arrays

The input is `x`, the weights `W`, their scales `s` and a norm's factors `γ`. -/

noncomputable section
namespace Cert.Rows
open Idealize.ShloMosaic Idealize.SL.Sem Cert.Scale

/-- Row `r` of the input, its two leading axes read as one. -/
def rowOf (x : (⟨3, ![6, 2048, 5120]⟩ : Shape).Idx → EReal) (r : Fin 12288) (k : Fin 5120) : EReal :=
  x (ix3 ⟨r.val / 2048, by omega⟩ ⟨r.val % 2048, by omega⟩ k)

/-- The dequantised weights. -/
def weightOf (W : (⟨2, ![2112, 5120]⟩ : Shape).Idx → EReal) (s : (⟨2, ![17, 40]⟩ : Shape).Idx → EReal) : Fin 2112 → Fin 5120 → EReal :=
  wdq (fun n k => W (ix2 n k)) (fun a b => s (ix2 a b))

variable (x : (⟨3, ![6, 2048, 5120]⟩ : Shape).Idx → EReal) (W : (⟨2, ![2112, 5120]⟩ : Shape).Idx → EReal) (s : (⟨2, ![17, 40]⟩ : Shape).Idx → EReal)

/-- The first result. -/
def queryOf (γ : (⟨1, ![1536]⟩ : Shape).Idx → EReal) : (⟨2, ![12288, 1536]⟩ : Shape).Idx → EReal := fun i =>
  query (proj (rowOf x (i 0)) (weightOf W s)) (fun j => γ (ix1 j)) (i 1)

/-- The second result. -/
def keyValueOf (γ : (⟨1, ![512]⟩ : Shape).Idx → EReal) : (⟨2, ![12288, 512]⟩ : Shape).Idx → EReal := fun i =>
  keyValue (proj (rowOf x (i 0)) (weightOf W s)) (fun j => γ (ix1 j)) (i 1)

/-- The third result. -/
def positionOf : (⟨2, ![12288, 64]⟩ : Shape).Idx → EReal := fun i => position (proj (rowOf x (i 0)) (weightOf W s)) (i 1)

/-- The fourth result: the codes. -/
def codesOf : (⟨2, ![12288, 5120]⟩ : Shape).Idx → EReal := fun i => code (rowOf x (i 0)) (i 1)

/-- The fifth result: the scales. -/
def scalesOf : (⟨2, ![12288, 40]⟩ : Shape).Idx → EReal := fun i => kScale (grpMax (rowOf x (i 0)) (i 1))

end Cert.Rows
-- ==== Proof.Inputs.lean ====
module
public import proofs.«01_k».proof.Proof.Gen.KernelIdeal.Value
public import proofs.«01_k».proof.Proof.Quant
public import Idealize.ShloMosaic.Lib.Pipeline.Value
public import proofs.«01_k».proof.Proof.Results
@[expose] public section
set_option maxRecDepth 16384

/-! # The blocks that the kernel reads, in terms of its arguments

Point `t` reads 256 rows of the input from row `256 * t` on, and the other four arguments whole. -/

noncomputable section
namespace Cert.KernelIdeal.Inputs
open Cert.KernelIdeal Cert.KernelIdeal.Gen Idealize.ShloMosaic Idealize.ShloMosaic.TcCoe Idealize.SL.Sem Cert.Scale Cert.Rows Cert.KernelIdeal.Quant

variable (m : (ℓ : Loc nD τ sig) → Buf (Elt Ideal) ℓ) (c : Dev nD)

theorem idx : ∀ t : Fin cfg0.N, win0_0.index t = ![0, 0] ∧ win0_1.index t = ![t.val, 0] ∧ win0_2.index t = ![0, 0] ∧ win0_3.index t = ![0, 0] ∧ win0_4.index t = ![0, 0]
    ∧ win0_5.index t = ![t.val, 0] ∧ win0_6.index t = ![t.val, 0] ∧ win0_7.index t = ![t.val, 0] ∧ win0_8.index t = ![t.val, 0] ∧ win0_9.index t = ![t.val, 0] := by
  decide +kernel

theorem scales_read (t : Fin cfg0.N) (a : Fin 17) (b : Fin 40) : iblk m c 0 t (ix2 a b) = m ((c : Thread nD τ).loc main_arg2) (ix2 a b) := by
  blk_ext [iblk, V, idx t]

theorem weights_read (t : Fin cfg0.N) (n : Fin 2112) (k : Fin 5120) : iblk m c 2 t (ix2 n k) = m ((c : Thread nD τ).loc main_arg1) (ix2 n k) := by
  blk_ext [iblk, V, idx t]

theorem gammaQ_read (t : Fin cfg0.N) (n : Fin 1536) : iblk m c 3 t (ix2 0 n) = m ((c : Thread nD τ).loc main_arg3) (ix1 n) := by
  blk_ext! [iblk, V, idx t]

theorem gammaKv_read (t : Fin cfg0.N) (n : Fin 512) : iblk m c 4 t (ix2 0 n) = m ((c : Thread nD τ).loc main_arg4) (ix1 n) := by
  blk_ext! [iblk, V, idx t]

theorem rows_read (t : Fin cfg0.N) (r : Fin 256) (k : Fin 5120) :
    iblk m c 1 t (ix2 r k) = rowOf (m ((c : Thread nD τ).loc main_arg0)) ⟨256 * t.val + r.val, by have := lt_of_lt_of_eq t.isLt (show cfg0.N = 48 from N_0); omega⟩ k := by
  unfold rowOf
  blk_ext! [iblk, V, idx t]

end Cert.KernelIdeal.Inputs
-- ==== Proof.KernelValue.lean ====
module
public import proofs.«01_k».proof.Proof.BlocksA
public import proofs.«01_k».proof.Proof.Inputs
@[expose] public section
set_option maxRecDepth 16384

/-! # The kernel's five arrays

Every point leaves its 256 rows of the five results of `Cert.Rows`: the weights in the scratch are the
dequantised ones from point 0 on. -/

noncomputable section
namespace Cert.KernelIdeal.Arrays
open Cert.KernelIdeal Cert.KernelIdeal.Gen Idealize.ShloMosaic Idealize.ShloMosaic.TcCoe Idealize.SL.Sem Cert.Scale Cert.Rows
open Cert.KernelIdeal.Quant Cert.KernelIdeal.Blocks Cert.KernelIdeal.Inputs

variable (m : (ℓ : Loc nD τ sig) → Buf (Elt Ideal) ℓ) (c : Dev nD)

/-- The dequantised weights as an array. -/
def weightArr : Vec Ideal S2112x5120 .bf16 := fun y => weightOf (m ((c : Thread nD τ).loc main_arg1)) (m ((c : Thread nD τ).loc main_arg2)) (y 0) (y 1)

/-- The weights' blocks are the whole arguments. -/
theorem weightB_eq (t : Fin cfg0.N) : weightB (iblk m c 0 t) (iblk m c 2 t) = weightArr m c := by
  funext y
  unfold weightB weightArr weightOf row
  simp only [weights_read, scales_read]

/-- The scratch holds the dequantised weights after every point. -/
theorem scratch : ∀ (n : ℕ) (hn : n < cfg0.N), (outsAt0 m c n hn).2.2.2.2.2 = weightArr m c
  | 0, hn => by
    rw [outsAt0_A m c ⟨0, hn⟩ (Nat.zero_mod _)]
    dsimp only
    refine Eq.trans ?_ (weightB_eq m c ⟨0, hn⟩)
    apply weights_A
  | n + 1, hn => by
    have h0 : ¬ (n + 1) % 48 = 0 := by have := lt_of_lt_of_eq hn (show cfg0.N = 48 from N_0); omega
    rw [outsAt0_B m c ⟨n + 1, hn⟩ h0]
    exact scratch n (Nat.lt_of_succ_lt hn)

/-- The row of the input that point `t` reads as its row `r`. -/
def rowAt (t : Fin cfg0.N) (r : Fin 256) : Fin 12288 :=
  ⟨256 * t.val + r.val, by have := lt_of_lt_of_eq t.isLt (show cfg0.N = 48 from N_0); omega⟩

theorem row_eq (t : Fin cfg0.N) (r : Fin 256) : row (iblk m c 1 t) r = rowOf (m ((c : Thread nD τ).loc main_arg0)) (rowAt t r) :=
  funext fun k => rows_read m c t r k

/-- The projection that point `t` makes of its row `r`. -/
theorem proj_blocks (t : Fin cfg0.N) (r : Fin 256) :
    projB (deqB (iblk m c 1 t)) (weightArr m c) r = proj (rowOf (m ((c : Thread nD τ).loc main_arg0)) (rowAt t r)) (weightOf (m ((c : Thread nD τ).loc main_arg1)) (m ((c : Thread nD τ).loc main_arg2))) := by
  funext n
  unfold projB deqB proj weightArr
  refine Finset.sum_congr rfl fun k _ => ?_
  rw [← row_eq]
  rfl

theorem point5 (t : Fin cfg0.N) (r : Fin 256) (n : Fin 1536) : (outsAt0 m c t.val t.isLt).1 (ix2 r n) =
    query (projB (deqB (iblk m c 1 t)) (weightArr m c) r) (fun j => iblk m c 3 t (ix2 0 j)) n := by
  by_cases h0 : t.val % 48 = 0
  · rw [outsAt0_A m c t h0]
    dsimp only
    refine (query_A ..).trans ?_
    rw [weightB_eq]
  · rw [outsAt0_B m c t h0]
    dsimp only
    refine (query_B ..).trans ?_
    rw [scratch]

theorem point6 (t : Fin cfg0.N) (r : Fin 256) (n : Fin 512) : (outsAt0 m c t.val t.isLt).2.1 (ix2 r n) =
    keyValue (projB (deqB (iblk m c 1 t)) (weightArr m c) r) (fun j => iblk m c 4 t (ix2 0 j)) n := by
  by_cases h0 : t.val % 48 = 0
  · rw [outsAt0_A m c t h0]
    dsimp only
    refine (keyValue_A ..).trans ?_
    rw [weightB_eq]
  · rw [outsAt0_B m c t h0]
    dsimp only
    refine (keyValue_B ..).trans ?_
    rw [scratch]

theorem point7 (t : Fin cfg0.N) (r : Fin 256) (n : Fin 64) : (outsAt0 m c t.val t.isLt).2.2.1 (ix2 r n) =
    position (projB (deqB (iblk m c 1 t)) (weightArr m c) r) n := by
  by_cases h0 : t.val % 48 = 0
  · rw [outsAt0_A m c t h0]
    dsimp only
    refine (position_A ..).trans ?_
    rw [weightB_eq]
  · rw [outsAt0_B m c t h0]
    dsimp only
    refine (position_B ..).trans ?_
    rw [scratch]

theorem point8 (t : Fin cfg0.N) : (outsAt0 m c t.val t.isLt).2.2.2.1 = codeB (iblk m c 1 t) := by
  by_cases h0 : t.val % 48 = 0
  · rw [outsAt0_A m c t h0]
    dsimp only
    apply codes_A
  · rw [outsAt0_B m c t h0]
    dsimp only
    apply codes_B

theorem point9 (t : Fin cfg0.N) : (outsAt0 m c t.val t.isLt).2.2.2.2.1 = scaleB (iblk m c 1 t) := by
  by_cases h0 : t.val % 48 = 0
  · rw [outsAt0_A m c t h0]
    dsimp only
    apply scales_A
  · rw [outsAt0_B m c t h0]
    dsimp only
    apply scales_B

/-- The first result. -/
theorem final5 : (dats m 0 c).arrAt 5 cfg0.N = queryOf (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨r, n, rfl⟩ : ∃ (r : Fin 256) (n : Fin 1536), y = ix2 r n := ⟨y 0, y 1, eq_ix2 y⟩
  rw [show ((View.whole main_v3_0).slice (win0_5.rect t)).emb (ix2 r n) = ix2 (rowAt t r) n from by unfold rowAt; blk_ext [idx t]]
  refine (point5 m c t r n).trans ?_
  simp only [gammaQ_read, proj_blocks]
  rfl

/-- The second result. -/
theorem final6 : (dats m 0 c).arrAt 6 cfg0.N = keyValueOf (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t hf y => ?_
  blk_simp
  rw [after0_6]
  obtain ⟨r, n, rfl⟩ : ∃ (r : Fin 256) (n : Fin 512), y = ix2 r n := ⟨y 0, y 1, eq_ix2 y⟩
  rw [show ((View.whole main_v3_1).slice (win0_6.rect t)).emb (ix2 r n) = ix2 (rowAt t r) n from by unfold rowAt; blk_ext [idx t]]
  refine (point6 m c t r n).trans ?_
  simp only [gammaKv_read, proj_blocks]
  rfl

/-- The third result. -/
theorem final7 : (dats m 0 c).arrAt 7 cfg0.N = positionOf (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  obtain ⟨r, n, rfl⟩ : ∃ (r : Fin 256) (n : Fin 64), y = ix2 r n := ⟨y 0, y 1, eq_ix2 y⟩
  rw [show ((View.whole main_v3_2).slice (win0_7.rect t)).emb (ix2 r n) = ix2 (rowAt t r) n from by unfold rowAt; blk_ext [idx t]]
  refine (point7 m c t r n).trans ?_
  simp only [proj_blocks]
  rfl

/-- The fourth result. -/
theorem final8 : (dats m 0 c).arrAt 8 cfg0.N = codesOf (m ((c : Thread nD τ).loc main_arg0)) := by
  refine (dats m 0 c).arrAt_eq_of_covers 8 _ (by decide +kernel) fun t hf y => ?_
  blk_simp
  rw [after0_8]
  obtain ⟨r, n, rfl⟩ : ∃ (r : Fin 256) (n : Fin 5120), y = ix2 r n := ⟨y 0, y 1, eq_ix2 y⟩
  rw [show ((View.whole main_v3_3).slice (win0_8.rect t)).emb (ix2 r n) = ix2 (rowAt t r) n from by unfold rowAt; blk_ext [idx t]]
  refine (congrFun (point8 m c t) (ix2 r n)).trans ?_
  show code (row (iblk m c 1 t) r) n = _
  rw [row_eq]
  rfl

/-- The fifth result. -/
theorem final9 : (dats m 0 c).arrAt 9 cfg0.N = scalesOf (m ((c : Thread nD τ).loc main_arg0)) := by
  refine (dats m 0 c).arrAt_eq_of_covers 9 _ (by decide +kernel) fun t hf y => ?_
  blk_simp
  rw [after0_9]
  obtain ⟨r, n, rfl⟩ : ∃ (r : Fin 256) (n : Fin 40), y = ix2 r n := ⟨y 0, y 1, eq_ix2 y⟩
  rw [show ((View.whole main_v3_4).slice (win0_9.rect t)).emb (ix2 r n) = ix2 (rowAt t r) n from by unfold rowAt; blk_ext [idx t]]
  refine (congrFun (point9 m c t) (ix2 r n)).trans ?_
  show kScale (grpMax (row (iblk m c 1 t) r) n) = _
  rw [row_eq]
  rfl

end Cert.KernelIdeal.Arrays
-- ==== Proof.RefQuant.lean ====
module
public import proofs.«01_k».proof.Proof.Gen.ReferenceIdeal.Skeleton
public import proofs.«01_k».proof.Proof.Rows
@[expose] public section
set_option maxRecDepth 16384

/-! # The reference's values at an index

The reference holds whole arrays of 12288 rows. These lemmas read its five results at an index, as
functions of one row, in the terms of `Cert.Rows`. -/

noncomputable section
namespace Cert.ReferenceIdeal.Quant
open Cert.ReferenceIdeal Cert.ReferenceIdeal.Gen Idealize.ShloMosaic Idealize.SL.Sem Cert.Scale Cert.Rows

variable (X : Vec Ideal S12288x5120 .bf16)

/-- The input read as wide numbers. -/
theorem widen_ref (r : Fin 12288) (k : Fin 5120) : k0_pay2 (F := Ideal) X (ix2 r k) = X (ix2 r k) := by
  unfold k0_pay2
  pointwise

/-- A group's largest magnitude. -/
theorem grpMax_expr (Y : FVec Ideal S12288x5120 .f32) (r : Fin 12288) (g : Fin 40) :
    multiReduction (F := Ideal) .maximumf [2] S12288x40 (absf (shapeCast S12288x40x128 Y shapeCasts_S12288x5120_S12288x40x128)) 0xFF800000#32
      reduces_S12288x40x128_S12288x40 (.inl rfl) rfl (ix2 r g) = grpMax (fun k => Y (ix2 r k)) g := by
  unfold grpMax
  pointwise
  have hb : Ideal.ofBits .f32 4286578688#32 = Ideal.ofBits .bf16 65408#16 := by simp [Ideal.ofBits, Ideal.ieee]
  rw [hb]
  refine Finset.fold_congr fun l _ => ?_
  simp only [Nat.mul_comm g.val 128]
  rfl

/-- The scale that a group's largest magnitude takes. -/
theorem scale_expr (A : FVec Ideal S12288x40 .f32) (r : Fin 12288) (g : Fin 40) :
    select (cmpf (F := Ideal) .oeq A (broadcast S12288x40 (Scalar.ofBits .f32 0x00000000#32 : Ideal .f32)))
      (broadcast S12288x40 (Scalar.ofBits .f32 0x3F800000#32 : Ideal .f32))
      (multiReduction (F := Ideal) .minimumf [2] S12288x40
        (select
          (cmpf .olt (broadcastTo S12288x40x254 (shapeCast S12288x40x1 A shapeCasts_S12288x40_S12288x40x1) broadcasts_S12288x40x1_S12288x40x254)
            (mulf (broadcast S12288x40x254 (Scalar.ofBits .f32 0x43E00000#32 : Ideal .f32))
              (exp2 (F := Ideal) (sitofp (F := Ideal) .f32 (addi (iota .tc S12288x40x254 32 [2] iota_S12288x40x254_d2_w32) (broadcast S12288x40x254 4294967170#32))))))
          (exp2 (F := Ideal) (sitofp (F := Ideal) .f32 (addi (iota .tc S12288x40x254 32 [2] iota_S12288x40x254_d2_w32) (broadcast S12288x40x254 4294967170#32))))
          (broadcast S12288x40x254 (Scalar.ofBits .f32 0x7F800000#32 : Ideal .f32)))
        0x7F800000#32 reduces_S12288x40x254_S12288x40 (.inl rfl) rfl) (ix2 r g) = rScale (A (ix2 r g)) := by
  unfold rScale rMin cand
  pointwise
  rfl

/-- The least candidate above a group's largest magnitude, or 1 for a group of zeros. -/
theorem scale_ref (r : Fin 12288) (g : Fin 40) :
    k0_pay3 (F := Ideal) X (ix2 r g) = rScale (grpMax (fun k => X (ix2 r k)) g) := by
  have h := scale_expr (multiReduction (F := Ideal) .maximumf [2] S12288x40 (absf (shapeCast S12288x40x128 (k0_pay2 (F := Ideal) X) shapeCasts_S12288x5120_S12288x40x128)) 0xFF800000#32
      reduces_S12288x40x128_S12288x40 (.inl rfl) rfl) r g
  rw [grpMax_expr] at h
  simp only [widen_ref] at h
  exact h

/-- The code of an entry, from its wide value and the scales. -/
theorem code_expr (Y : FVec Ideal S12288x5120 .f32) (Z : FVec Ideal S12288x40 .f32) (r : Fin 12288) (k : Fin 5120) :
    truncf (F := Ideal) .fp8e4m3
      (minimumf (broadcast S12288x5120 (Scalar.ofBits .f32 0x43E00000#32 : Ideal .f32))
        (maximumf (F := Ideal) (broadcast S12288x5120 (Scalar.ofBits .f32 0xC3E00000#32 : Ideal .f32))
          (mulf Y (shapeCast S12288x5120 (broadcastTo S12288x40x128
            (shapeCast S12288x40x1 (shapeCast S12288x40x1 (divf (F := Ideal) (broadcast S12288x40 (Scalar.ofBits .f32 0x3F800000#32 : Ideal .f32)) Z)
              shapeCasts_S12288x40_S12288x40x1) shapeCasts_S12288x40x1_S12288x40x1)
            broadcasts_S12288x40x1_S12288x40x128) shapeCasts_S12288x40x128_S12288x5120))))
      bitsLt_fp8e4m3_f32 (ix2 r k) =
    min (Ideal.ofBits .f32 1138753536#32) (max (Ideal.ofBits .f32 3286237184#32) (Y (ix2 r k) * Ideal.div 1 (Z (ix2 r (grp k))))) := by
  unfold grp
  pointwise

/-- The code of an entry. -/
theorem code_ref (r : Fin 12288) (k : Fin 5120) :
    k0_pay4 (F := Ideal) X (ix2 r k) = min (Ideal.ofBits .f32 1138753536#32) (max (Ideal.ofBits .f32 3286237184#32)
      (X (ix2 r k) * Ideal.div 1 (k0_pay3 (F := Ideal) X (ix2 r (grp k))))) := by
  have h := code_expr (k0_pay2 (F := Ideal) X) (k0_pay3 (F := Ideal) X) r k
  rw [widen_ref] at h
  exact h

/-- The dequantised entry. -/
theorem deq_ref (r : Fin 12288) (k : Fin 5120) :
    k0_pay5 (F := Ideal) X (ix2 r k) = k0_pay4 (F := Ideal) X (ix2 r k) * k0_pay3 (F := Ideal) X (ix2 r (grp k)) := by
  unfold grp
  pointwise [k0_pay5]

/-- Where every group's magnitude is in range, the reference's scale is the kernel's. -/
theorem scale_eq (r : Fin 12288) (hG : ∀ g, Good (grpMax (fun k => X (ix2 r k)) g)) (g : Fin 40) :
    k0_pay3 (F := Ideal) X (ix2 r g) = kScale (grpMax (fun k => X (ix2 r k)) g) := by
  rw [scale_ref, kScale_eq (hG g)]

/-- Then the codes agree too. -/
theorem code_eq (r : Fin 12288) (hG : ∀ g, Good (grpMax (fun k => X (ix2 r k)) g)) (k : Fin 5120) :
    k0_pay4 (F := Ideal) X (ix2 r k) = code (fun k => X (ix2 r k)) k := by
  rw [code_ref, scale_ref, code, kInv_eq (hG _)]

/-- And the dequantised entries. -/
theorem deq_eq (r : Fin 12288) (hG : ∀ g, Good (grpMax (fun k => X (ix2 r k)) g)) (k : Fin 5120) :
    k0_pay5 (F := Ideal) X (ix2 r k) = deq (fun k => X (ix2 r k)) k := by
  rw [deq_ref, code_eq X r hG, scale_eq X r hG, deq]

variable (D : FVec Ideal S12288x5120 .bf16) (S : Vec Ideal S17x40 .f32) (W : Vec Ideal S2112x5120 .fp8e4m3)

/-- The projection. -/
theorem proj_ref (r : Fin 12288) (n : Fin 2112) :
    k0_pay7 (F := Ideal) D (k0_pay6 S) W (ix2 r n) =
      ∑ k : Fin 5120, D (ix2 r k) * wdq (fun n k => W (ix2 n k)) (fun a b => S (ix2 a b)) n k := by
  unfold wdq grp
  pointwise [k0_pay7, k0_pay6]

/-- The projection of a row whose groups are in range. -/
theorem proj_eq (r : Fin 12288) (hG : ∀ g, Good (grpMax (fun k => X (ix2 r k)) g)) (n : Fin 2112) :
    k0_pay7 (F := Ideal) (k0_pay5 X) (k0_pay6 S) W (ix2 r n) =
      proj (fun k => X (ix2 r k)) (wdq (fun n k => W (ix2 n k)) (fun a b => S (ix2 a b))) n := by
  rw [proj_ref, proj]
  exact Finset.sum_congr rfl fun k _ => by rw [deq_eq X r hG]

/-- The query's part. -/
theorem query_ref (Q : FVec Ideal S17x1x40x1 .bf16) (γ : Vec Ideal S1x1536 .bf16) (r : Fin 12288) (n : Fin 1536) :
    k0_pay8 (F := Ideal) D Q W γ (ix2 r n) = query (fun n => k0_pay7 (F := Ideal) D Q W (ix2 r n)) (fun j => γ (ix2 0 j)) n := by
  unfold query
  pointwise [k0_pay8]

/-- The key's and value's part. -/
theorem keyValue_ref (Q : FVec Ideal S17x1x40x1 .bf16) (γ : Vec Ideal S1x512 .bf16) (r : Fin 12288) (n : Fin 512) :
    k0_pay9 (F := Ideal) D Q W γ (ix2 r n) = keyValue (fun n => k0_pay7 (F := Ideal) D Q W (ix2 r n)) (fun j => γ (ix2 0 j)) n := by
  unfold keyValue
  pointwise [k0_pay9]

/-- The key's part with a position. -/
theorem position_ref (Y : FVec Ideal S12288x2112 .f32) (r : Fin 12288) (n : Fin 64) :
    k0_pay1 (F := Ideal) Y (ix2 r n) = position (fun n => Y (ix2 r n)) n := by
  unfold position
  pointwise [k0_pay1]

end Cert.ReferenceIdeal.Quant
-- ==== Proof.RefValue.lean ====
module
public import proofs.«01_k».proof.Proof.Gen.ReferenceIdeal.Value
public import proofs.«01_k».proof.Proof.RefQuant
public import Idealize.ShloMosaic.Lib.Pipeline.Value
public import proofs.«01_k».proof.Proof.Results
@[expose] public section
set_option maxRecDepth 16384

/-! # The reference's five arrays

Where every group is in range, the reference ends with the five results of `Cert.Rows`. -/

noncomputable section
namespace Cert.ReferenceIdeal.Arrays
open Cert.ReferenceIdeal Cert.ReferenceIdeal.Gen Idealize.ShloMosaic Idealize.ShloMosaic.TcCoe Idealize.SL.Sem Cert.Scale Cert.Rows Cert.ReferenceIdeal.Quant

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] := by
  decide +kernel

theorem scales_read (t : Fin cfg0.N) (a : Fin 17) (b : Fin 40) : iblk m c 2 t (ix2 a b) = m ((c : Thread nD τ).loc main_arg2) (ix2 a b) := by
  blk_ext [iblk, V, idx t]

theorem weights_read (t : Fin cfg0.N) (n : Fin 2112) (k : Fin 5120) : iblk m c 1 t (ix2 n k) = m ((c : Thread nD τ).loc main_arg1) (ix2 n k) := by
  blk_ext [iblk, V, idx t]

theorem gammaQ_read (t : Fin cfg0.N) (n : Fin 1536) : iblk m c 3 t (ix2 0 n) = m ((c : Thread nD τ).loc main_arg3) (ix1 n) := by
  blk_ext! [iblk, V, idx t]

theorem gammaKv_read (t : Fin cfg0.N) (n : Fin 512) : iblk m c 4 t (ix2 0 n) = m ((c : Thread nD τ).loc main_arg4) (ix1 n) := by
  blk_ext! [iblk, V, idx t]

theorem rows_read (t : Fin cfg0.N) (r : Fin 12288) (k : Fin 5120) :
    iblk m c 0 t (ix2 r k) = rowOf (m ((c : Thread nD τ).loc main_arg0)) r k := by
  unfold rowOf
  blk_ext! [iblk, V, idx t]

/-- The rows of the input's block are rows of the argument. -/
theorem row_eq (t : Fin cfg0.N) (r : Fin 12288) : (fun k => iblk m c 0 t (ix2 r k)) = rowOf (m ((c : Thread nD τ).loc main_arg0)) r :=
  funext fun k => rows_read m c t r k

/-- The projection that the reference makes. -/
theorem proj_blocks (hG : ∀ r g, Good (grpMax (rowOf (m ((c : Thread nD τ).loc main_arg0)) r) g)) (t : Fin cfg0.N) (r : Fin 12288) (n : Fin 2112) :
    k0_pay7 (F := Ideal) (k0_pay5 (iblk m c 0 t)) (k0_pay6 (iblk m c 2 t)) (iblk m c 1 t) (ix2 r n) =
      proj (rowOf (m ((c : Thread nD τ).loc main_arg0)) r) (weightOf (m ((c : Thread nD τ).loc main_arg1)) (m ((c : Thread nD τ).loc main_arg2))) n := by
  refine (proj_eq (iblk m c 0 t) (iblk m c 2 t) (iblk m c 1 t) r (fun g => by rw [row_eq]; exact hG r g) n).trans ?_
  rw [row_eq, weightOf]
  simp only [weights_read, scales_read]

variable (x0 : Vec Ideal S12288x5120 .bf16) (x1 : Vec Ideal S2112x5120 .fp8e4m3) (x2 : Vec Ideal S17x40 .f32) (x3 : Vec Ideal S1x1536 .bf16) (x4 : Vec Ideal S1x512 .bf16)

/-- The dequantised entries, of the load of the whole input. -/
theorem pay10 : k0_pay10 x0 x1 x2 x3 x4 = k0_pay5 x0 :=
  congrArg k0_pay5 (View.ld_unit_lit' _ x0 (by decide))

/-- The weights' scales, of the load of all of them. -/
theorem pay11 : k0_pay11 x0 x1 x2 x3 x4 = k0_pay6 x2 :=
  congrArg k0_pay6 (View.ld_unit_lit' _ x2 (by decide))

/-- The first result. -/
theorem final5 (hG : ∀ r g, Good (grpMax (rowOf (m ((c : Thread nD τ).loc main_arg0)) r) g)) :
    (dats m 0 c).arrAt 5 cfg0.N = queryOf (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  obtain ⟨r, n, rfl⟩ : ∃ (r : Fin 12288) (n : Fin 1536), y = ix2 r n := ⟨y 0, y 1, eq_ix2 y⟩
  rw [show ((View.whole main_v3_0).slice (win0_5.rect t)).emb (ix2 r n) = ix2 r n from by blk_ext [idx t]]
  refine (query_ref _ _ _ _ r n).trans ?_
  simp only [pay10, pay11, gammaQ_read, proj_blocks m c hG]
  rfl

/-- The second result. -/
theorem final6 (hG : ∀ r g, Good (grpMax (rowOf (m ((c : Thread nD τ).loc main_arg0)) r) g)) :
    (dats m 0 c).arrAt 6 cfg0.N = keyValueOf (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t hf y => ?_
  blk_simp
  rw [after0_6]
  frame_out
  obtain ⟨r, n, rfl⟩ : ∃ (r : Fin 12288) (n : Fin 512), y = ix2 r n := ⟨y 0, y 1, eq_ix2 y⟩
  rw [show ((View.whole main_v3_1).slice (win0_6.rect t)).emb (ix2 r n) = ix2 r n from by blk_ext [idx t]]
  refine (keyValue_ref _ _ _ _ r n).trans ?_
  simp only [pay10, pay11, gammaKv_read, proj_blocks m c hG]
  rfl

/-- The third result. -/
theorem final7 (hG : ∀ r g, Good (grpMax (rowOf (m ((c : Thread nD τ).loc main_arg0)) r) g)) :
    (dats m 0 c).arrAt 7 cfg0.N = positionOf (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  frame_out
  obtain ⟨r, n, rfl⟩ : ∃ (r : Fin 12288) (n : Fin 64), y = ix2 r n := ⟨y 0, y 1, eq_ix2 y⟩
  rw [show ((View.whole main_v3_2).slice (win0_7.rect t)).emb (ix2 r n) = ix2 r n from by blk_ext [idx t]]
  refine (position_ref _ r n).trans ?_
  simp only [pay10, pay11, proj_blocks m c hG]
  rfl

/-- The fourth result. -/
theorem final8 (hG : ∀ r g, Good (grpMax (rowOf (m ((c : Thread nD τ).loc main_arg0)) r) g)) :
    (dats m 0 c).arrAt 8 cfg0.N = codesOf (m ((c : Thread nD τ).loc main_arg0)) := by
  refine (dats m 0 c).arrAt_eq_of_covers 8 _ (by decide +kernel) fun t hf y => ?_
  blk_simp
  rw [after0_8]
  frame_out
  obtain ⟨r, n, rfl⟩ : ∃ (r : Fin 12288) (n : Fin 5120), y = ix2 r n := ⟨y 0, y 1, eq_ix2 y⟩
  rw [show ((View.whole main_v3_3).slice (win0_8.rect t)).emb (ix2 r n) = ix2 r n from by blk_ext [idx t]]
  refine (code_eq _ r (fun g => by rw [row_eq]; exact hG r g) n).trans ?_
  rw [row_eq]
  rfl

/-- The fifth result. -/
theorem final9 (hG : ∀ r g, Good (grpMax (rowOf (m ((c : Thread nD τ).loc main_arg0)) r) g)) :
    (dats m 0 c).arrAt 9 cfg0.N = scalesOf (m ((c : Thread nD τ).loc main_arg0)) := by
  refine (dats m 0 c).arrAt_eq_of_covers 9 _ (by decide +kernel) fun t hf y => ?_
  blk_simp
  rw [after0_9]
  frame_out
  obtain ⟨r, n, rfl⟩ : ∃ (r : Fin 12288) (n : Fin 40), y = ix2 r n := ⟨y 0, y 1, eq_ix2 y⟩
  rw [show ((View.whole main_v3_4).slice (win0_9.rect t)).emb (ix2 r n) = ix2 r n from by blk_ext [idx t]]
  refine (scale_eq _ r (fun g => by rw [row_eq]; exact hG r g) n).trans ?_
  rw [row_eq]
  rfl

end Cert.ReferenceIdeal.Arrays
-- ==== Proof.Range.lean ====
module
public import proofs.«01_k».proof.Pre_in_range
public import proofs.«01_k».proof.Proof.Rows
public import Idealize.ShloMosaic.Lib.ReduceAll
public import proofs.«01_k».proof.Proof.Results
@[expose] public section
set_option maxRecDepth 16384

/-! # What the precondition says of a group

The precondition says that the largest magnitude of every group is 0 or lies in a range; so it is
`Good`: the scale that the kernel makes of it is the reference's. -/

noncomputable section
namespace Cert.Pre_in_range
open Idealize.ShloMosaic Idealize.SL.Sem Cert.Scale Cert.Rows

variable [Facts]
open Facts

/-- The largest magnitude of a group, as the precondition computes it. -/
theorem amax_expr (Y : FVec Ideal S12288x40x128 .f32) (r : Fin 12288) (g : Fin 40) :
    Host.reduce FloatOps.maximumf (Host.absf (F := Ideal) Y) (constant (F := Ideal) S_ .f32 0xFF800000#32)
      reducesTo_S12288x40x128_S12288x40_d2 h_S_ (ix2 r g) = grpMax (fun k => Y (ix3 r (grp k) ⟨k.val % 128, by omega⟩)) g := by
  unfold grpMax
  pointwise
  have hb : Ideal.ofBits .f32 4286578688#32 = Ideal.ofBits .bf16 65408#16 := by simp [Ideal.ofBits, Ideal.ieee]
  rw [hb]
  refine Finset.fold_congr fun l _ => ?_
  have h1 : grp ⟨128 * g.val + l.val, by omega⟩ = g := Fin.ext (by show (128 * g.val + l.val) / 128 = g.val; omega)
  have h2 : (⟨(128 * g.val + l.val) % 128, by omega⟩ : Fin 128) = l := Fin.ext (by show (128 * g.val + l.val) % 128 = l.val; omega)
  rw [h1, h2]
  rfl

/-- One group's test. -/
theorem test_expr (A : FVec Ideal S12288x40 .f32) (i : S12288x40.Idx)
    (h : ori (cmpf (F := Ideal) .oeq A (broadcastInDim S12288x40 ![] bcast_S_S12288x40 (constant (F := Ideal) S_ .f32 0x00000000#32)))
      (andi (cmpf .oge A (broadcastInDim S12288x40 ![] bcast_S_S12288x40 (constant (F := Ideal) S_ .f32 0x04E00000#32)))
        (cmpf .ole A (broadcastInDim S12288x40 ![] bcast_S_S12288x40 (constant (F := Ideal) S_ .f32 0x7F7F0000#32)))) i = 1#1) :
    Good (A i) := by
  apply good_of_range
  idx_vars i
  pointwise at h
  have hlo : Ideal.ofBits .f32 81788928#32 = ((7 / 4 * 2 ^ (-118 : ℤ) : ℝ) : EReal) := by
    simp [Ideal.ofBits, Ideal.ieee]
    norm_num
    exact_mod_cast (by norm_num : (14680064 : ℝ) * (1 / 2787593149816327892691964784081045188247552) = 7 / 4 * (1 / 332306998946228968225951765070086144))
  have hhi : Ideal.ofBits .f32 2139029504#32 = ((255 * 2 ^ (120 : ℤ) : ℝ) : EReal) := by
    simp [Ideal.ofBits, Ideal.ieee]
    exact_mod_cast (by norm_num : (16711680 : ℝ) * 2 ^ 104 = 255 * 2 ^ 120)
  rw [hlo, hhi] at h
  generalize ((7 / 4 * 2 ^ (-118 : ℤ) : ℝ) : EReal) = lo at h ⊢
  generalize ((255 * 2 ^ (120 : ℤ) : ℝ) : EReal) = hi at h ⊢
  by_contra hn
  rw [not_or, not_and_or] at hn
  rcases hn with ⟨h1, h2 | h2⟩ <;> simp [h1, h2, IntOp.ori, IntOp.andi] at h

/-- The precondition gives `Good` of every group. -/
theorem good_of_fn (a0 : FVec Ideal S6x2048x5120 .bf16) (a1 : FVec Ideal S2112x5120 .fp8e4m3) (a2 : FVec Ideal S17x40 .f32)
    (a3 : FVec Ideal S1536 .bf16) (a4 : FVec Ideal S512 .bf16) (j : S_.Idx) (h : fn a0 a1 a2 a3 a4 j = 1#1) (r : Fin 12288) (g : Fin 40) :
    Good (grpMax (rowOf a0 r) g) := by
  haveI : Subsingleton S_.Idx := ⟨fun a b => funext fun d => d.elim0⟩
  have h1 := Host.reduce_andi_all _ _ _ _ j h (ix2 r g)
  have h2 := test_expr (Host.reduce FloatOps.maximumf (Host.absf (F := Ideal) (shapeCast S12288x40x128 (extf .f32 a0 bitsLt_bf16_f32) shapeCasts_S6x2048x5120_S12288x40x128))
    (constant (F := Ideal) S_ .f32 0xFF800000#32) reducesTo_S12288x40x128_S12288x40_d2 h_S_) (ix2 r g) h1
  rw [amax_expr] at h2
  have h3 (k : Fin 5120) : shapeCast S12288x40x128 (extf (F := Ideal) .f32 a0 bitsLt_bf16_f32) shapeCasts_S6x2048x5120_S12288x40x128 (ix3 r (grp k) ⟨k.val % 128, by omega⟩)
      = a0 (ix3 ⟨r.val / 2048, by omega⟩ ⟨r.val % 2048, by omega⟩ k) := by
    unfold grp
    pointwise
  simp only [h3] at h2
  exact h2

end Cert.Pre_in_range
-- ==== Proof.Algebraic.lean ====
module
public import proofs.«01_k».proof.Defs
public import proofs.«01_k».proof.Proof.KernelValue
public import proofs.«01_k».proof.Proof.RefValue
public import proofs.«01_k».proof.Proof.Range
public import proofs.«01_k».proof.Proof.Gen.Pre_in_range
public import proofs.«01_k».proof.Proof.Gen.KernelIdeal.Value
public import proofs.«01_k».proof.Proof.Gen.ReferenceIdeal.Value
@[expose] public section
set_option maxRecDepth 16384

/-! # The kernel and the reference compute the same five arrays

Both runs leave the five arrays of `Cert.Rows`, of the same arguments. -/

noncomputable section
namespace Cert.Algebraic
open Idealize.ShloMosaic Idealize.ShloMosaic.TcCoe Idealize.SL.Sem Cert.Scale Cert.Rows

/-- Over the reals the kernel leaves the reference's five results, and both leave their arguments unchanged. -/
theorem algebraic : algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  have hG : ∀ (c : Dev Cert.KernelIdeal.nD) r g, Good (grpMax (rowOf (m' ((c.tc : Thread Cert.ReferenceIdeal.nD Cert.ReferenceIdeal.τ).loc Cert.ReferenceIdeal.main_arg0)) r) g) := by
    intro c r g
    rw [(hargs c).1]
    exact Cert.Pre_in_range.good_of_fn _ _ _ _ _ (fun a => a.elim0) (congrFun (hpre c) _) r g
  refine ⟨fun c => queryOf (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)),
    fun c => keyValueOf (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg4)),
    fun c => positionOf (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)),
    fun c => codesOf (m ((c : Thread Cert.KernelIdeal.nD Cert.KernelIdeal.τ).loc Cert.KernelIdeal.main_arg0)),
    fun c => scalesOf (m ((c : Thread Cert.KernelIdeal.nD Cert.KernelIdeal.τ).loc Cert.KernelIdeal.main_arg0)),
    (θ_run _ _ _).mono ?_ (Cert.KernelIdeal.Value.run_blocks m g),
    (θ_run _ _ _).mono ?_ (Cert.ReferenceIdeal.Value.run_blocks m' g')⟩
  · intro r h c
    obtain ⟨h0, h1, h2, h3, h4, h⟩ := h c
    exact ⟨h0.trans (Cert.KernelIdeal.Arrays.final5 m c), h1.trans (Cert.KernelIdeal.Arrays.final6 m c),
      h2.trans (Cert.KernelIdeal.Arrays.final7 m c), h3.trans (Cert.KernelIdeal.Arrays.final8 m c),
      h4.trans (Cert.KernelIdeal.Arrays.final9 m c), h⟩
  · intro r h c
    obtain ⟨h0, h1, h2, h3, h4, h⟩ := h c
    obtain ⟨a0, a1, a2, a3, a4⟩ := hargs c
    refine ⟨h0.trans ((Cert.ReferenceIdeal.Arrays.final5 m' c (hG c)).trans ?_),
      h1.trans ((Cert.ReferenceIdeal.Arrays.final6 m' c (hG c)).trans ?_),
      h2.trans ((Cert.ReferenceIdeal.Arrays.final7 m' c (hG c)).trans ?_),
      h3.trans ((Cert.ReferenceIdeal.Arrays.final8 m' c (hG c)).trans ?_),
      h4.trans ((Cert.ReferenceIdeal.Arrays.final9 m' c (hG c)).trans ?_), h⟩
    · exact congr (congr (congr (congrArg queryOf a0) a1) a2) a3
    · exact congr (congr (congr (congrArg keyValueOf a0) a1) a2) a4
    · exact congr (congr (congrArg positionOf a0) a1) a2
    · exact congrArg codesOf a0
    · exact congrArg scalesOf a0

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Gen.KernelIdeal.Value
public import proofs.«01_k».proof.Proof.Gen.ReferenceIdeal.Value
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The programs run to the end with their arguments unchanged, the idealized program rewrote nothing, and over the reals
the kernel leaves the five results of the reference. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  Cert.Algebraic.algebraic⟩

end Cert.Proof

end
